-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_in_range : Cert.Pre_in_range.Facts] (m : (ℓ : Loc Cert.Kernel3.nD Cert.Kernel3.τ Cert.Kernel3.sig) → Buf (Elt Bits) ℓ) : Prop :=
  ∀ c : Dev Cert.Kernel3.nD,
    (Cert.Pre_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2 = (fun _ => 1#1)

def Pre_Kernel3Ideal [hPre_in_range : Cert.Pre_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_in_range [hPre_in_range : Cert.Pre_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] [hPre_in_range : Cert.Pre_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_in_range [hReference3Ideal : Cert.Reference3Ideal.Facts] [hPre_in_range : Cert.Pre_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts) (hPre_in_range : Cert.Pre_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_in_range := hPre_in_range)
    ∧ quiescent_Kernel3Ideal (hKernel3Ideal := hKernel3Ideal) (hPre_in_range := hPre_in_range)
    ∧ quiescent_Reference3Ideal (hReference3Ideal := hReference3Ideal)
    ∧ quiescent_Reference3Ideal_pre_in_range (hReference3Ideal := hReference3Ideal) (hPre_in_range := hPre_in_range)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_in_range := hPre_in_range)
-- ==== Pre_finite_qk.lean ====
abbrev S2x8192x8x128 : Shape := ⟨4, ![2, 8192, 8, 128]⟩
abbrev S2x8192x8x64 : Shape := ⟨4, ![2, 8192, 8, 64]⟩
abbrev S2x8192x64 : Shape := ⟨3, ![2, 8192, 64]⟩
abbrev S2x256x8x128 : Shape := ⟨4, ![2, 256, 8, 128]⟩
abbrev S2x256x64 : Shape := ⟨3, ![2, 256, 64]⟩
abbrev S_ : Shape := ⟨0, ![]⟩

class Facts : Prop where
  bcast_S_S2x8192x8x128 : S_.BroadcastsInDim S2x8192x8x128 (![] : Fin 0 → Fin S2x8192x8x128.rank)
  bcast_S_S2x8192x8x64 : S_.BroadcastsInDim S2x8192x8x64 (![] : Fin 0 → Fin S2x8192x8x64.rank)
  bcast_S_S2x8192x64 : S_.BroadcastsInDim S2x8192x64 (![] : Fin 0 → Fin S2x8192x64.rank)
  bcast_S_S2x256x8x128 : S_.BroadcastsInDim S2x256x8x128 (![] : Fin 0 → Fin S2x256x8x128.rank)
  bcast_S_S2x256x64 : S_.BroadcastsInDim S2x256x64 (![] : Fin 0 → Fin S2x256x64.rank)

variable [Facts]

def fn_part1 {F : FTy → Type} [FloatOps F] (main_arg3 : FVec F S2x8192x64 .f32) (main_arg5 : FVec F S2x256x8x128 .f32) (main_arg6 : FVec F S2x256x64 .f32) (main_v4 : IVec S2x8192x8x128 1) (main_v9 : IVec S2x8192x8x64 1) (main_v14 : IVec S2x8192x8x128 1) (main_v16 : IVec S2x8192x64 1) : IVec S2x8192x8x128 1 × IVec S2x8192x8x64 1 × IVec S2x8192x8x128 1 × IVec S2x8192x64 1 × IVec S2x256x8x128 1 × IVec S2x256x64 1 :=
  let main_cst_6 : FVec F S_ .f32 := constant S_ .f32 0x7F800000#32
  let main_v17 : FVec F S2x8192x64 .f32 := broadcastInDim S2x8192x64 ![] bcast_S_S2x8192x64 main_cst_6
  let main_v18 : IVec S2x8192x64 1 := cmpf .olt main_arg3 main_v17
  let main_v19 : IVec S2x8192x64 1 := andi main_v16 main_v18
  let main_cst_7 : FVec F S_ .f32 := constant S_ .f32 0xFF800000#32
  let main_v20 : FVec F S2x256x8x128 .f32 := broadcastInDim S2x256x8x128 ![] bcast_S_S2x256x8x128 main_cst_7
  let main_v21 : IVec S2x256x8x128 1 := cmpf .ogt main_arg5 main_v20
  let main_cst_8 : FVec F S_ .f32 := constant S_ .f32 0x7F800000#32
  let main_v22 : FVec F S2x256x8x128 .f32 := broadcastInDim S2x256x8x128 ![] bcast_S_S2x256x8x128 main_cst_8
  let main_v23 : IVec S2x256x8x128 1 := cmpf .olt main_arg5 main_v22
  let main_v24 : IVec S2x256x8x128 1 := andi main_v21 main_v23
  let main_cst_9 : FVec F S_ .f32 := constant S_ .f32 0xFF800000#32
  let main_v25 : FVec F S2x256x64 .f32 := broadcastInDim S2x256x64 ![] bcast_S_S2x256x64 main_cst_9
  let main_v26 : IVec S2x256x64 1 := cmpf .ogt main_arg6 main_v25
  let main_cst_10 : FVec F S_ .f32 := constant S_ .f32 0x7F800000#32
  let main_v27 : FVec F S2x256x64 .f32 := broadcastInDim S2x256x64 ![] bcast_S_S2x256x64 main_cst_10
  let main_v28 : IVec S2x256x64 1 := cmpf .olt main_arg6 main_v27
  let main_v29 : IVec S2x256x64 1 := andi main_v26 main_v28
  (main_v4, main_v9, main_v14, main_v19, main_v24, main_v29)

def fn {F : FTy → Type} [FloatOps F] (main_arg0 : FVec F S2x8192x8x128 .f32) (main_arg1 : FVec F S2x8192x8x64 .f32) (main_arg2 : FVec F S2x8192x8x128 .f32) (main_arg3 : FVec F S2x8192x64 .f32) (main_arg4 : FVec F S2x8192x8x128 .f32) (main_arg5 : FVec F S2x256x8x128 .f32) (main_arg6 : FVec F S2x256x64 .f32) (main_arg7 : FVec F S2x256x8x128 .f32) : IVec S2x8192x8x128 1 × IVec S2x8192x8x64 1 × IVec S2x8192x8x128 1 × IVec S2x8192x64 1 × IVec S2x256x8x128 1 × IVec S2x256x64 1 :=
  let main_cst : FVec F S_ .f32 := constant S_ .f32 0xFF800000#32
  let main_v0 : FVec F S2x8192x8x128 .f32 := broadcastInDim S2x8192x8x128 ![] bcast_S_S2x8192x8x128 main_cst
  let main_v1 : IVec S2x8192x8x128 1 := cmpf .ogt main_arg0 main_v0
  let main_cst_0 : FVec F S_ .f32 := constant S_ .f32 0x7F800000#32
  let main_v2 : FVec F S2x8192x8x128 .f32 := broadcastInDim S2x8192x8x128 ![] bcast_S_S2x8192x8x128 main_cst_0
  let main_v3 : IVec S2x8192x8x128 1 := cmpf .olt main_arg0 main_v2
  let main_v4 : IVec S2x8192x8x128 1 := andi main_v1 main_v3
  let main_cst_1 : FVec F S_ .f32 := constant S_ .f32 0xFF800000#32
  let main_v5 : FVec F S2x8192x8x64 .f32 := broadcastInDim S2x8192x8x64 ![] bcast_S_S2x8192x8x64 main_cst_1
  let main_v6 : IVec S2x8192x8x64 1 := cmpf .ogt main_arg1 main_v5
  let main_cst_2 : FVec F S_ .f32 := constant S_ .f32 0x7F800000#32
  let main_v7 : FVec F S2x8192x8x64 .f32 := broadcastInDim S2x8192x8x64 ![] bcast_S_S2x8192x8x64 main_cst_2
  let main_v8 : IVec S2x8192x8x64 1 := cmpf .olt main_arg1 main_v7
  let main_v9 : IVec S2x8192x8x64 1 := andi main_v6 main_v8
  let main_cst_3 : FVec F S_ .f32 := constant S_ .f32 0xFF800000#32
  let main_v10 : FVec F S2x8192x8x128 .f32 := broadcastInDim S2x8192x8x128 ![] bcast_S_S2x8192x8x128 main_cst_3
  let main_v11 : IVec S2x8192x8x128 1 := cmpf .ogt main_arg2 main_v10
  let main_cst_4 : FVec F S_ .f32 := constant S_ .f32 0x7F800000#32
  let main_v12 : FVec F S2x8192x8x128 .f32 := broadcastInDim S2x8192x8x128 ![] bcast_S_S2x8192x8x128 main_cst_4
  let main_v13 : IVec S2x8192x8x128 1 := cmpf .olt main_arg2 main_v12
  let main_v14 : IVec S2x8192x8x128 1 := andi main_v11 main_v13
  let main_cst_5 : FVec F S_ .f32 := constant S_ .f32 0xFF800000#32
  let main_v15 : FVec F S2x8192x64 .f32 := broadcastInDim S2x8192x64 ![] bcast_S_S2x8192x64 main_cst_5
  let main_v16 : IVec S2x8192x64 1 := cmpf .ogt main_arg3 main_v15
  fn_part1 (F := F) main_arg3 main_arg5 main_arg6 main_v4 main_v9 main_v14 main_v16
-- ==== Pre_in_range.lean ====
abbrev S140 : Shape := ⟨1, ![140]⟩
abbrev S1 : Shape := ⟨1, ![1]⟩
abbrev S286720x128 : Shape := ⟨2, ![286720, 128]⟩
abbrev S2x8x1024x1408 : Shape := ⟨4, ![2, 8, 1024, 1408]⟩
abbrev S2x8x1408x1024 : Shape := ⟨4, ![2, 8, 1408, 1024]⟩
abbrev S_ : Shape := ⟨0, ![]⟩

class Facts : Prop where
  bcast_S_S140 : S_.BroadcastsInDim S140 (![] : Fin 0 → Fin S140.rank)
  bcast_S_S1 : S_.BroadcastsInDim S1 (![] : Fin 0 → Fin S1.rank)

variable [Facts]

def fn {F : FTy → Type} [FloatOps F] (main_arg0 : IVec S140 32) (main_arg1 : IVec S1 32) (main_arg2 : FVec F S286720x128 .f32) (main_arg3 : FVec F S2x8x1024x1408 .f32) (main_arg4 : FVec F S2x8x1024x1408 .f32) (main_arg5 : FVec F S2x8x1408x1024 .f32) : IVec S140 1 × IVec S1 1 :=
  let main_c : IVec S_ 32 := constantI S_ 32 0#32
  let main_v0 : IVec S140 32 := broadcastInDim S140 ![] bcast_S_S140 main_c
  let main_v1 : IVec S140 1 := cmpi .sge main_arg0 main_v0
  let main_c_0 : IVec S_ 32 := constantI S_ 32 8#32
  let main_v2 : IVec S140 32 := broadcastInDim S140 ![] bcast_S_S140 main_c_0
  let main_v3 : IVec S140 1 := cmpi .slt main_arg0 main_v2
  let main_v4 : IVec S140 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S2x8192x8x128 : Shape := ⟨4, ![2, 8192, 8, 128]⟩
abbrev S2x8192x8x64 : Shape := ⟨4, ![2, 8192, 8, 64]⟩
abbrev S2x8192x64 : Shape := ⟨3, ![2, 8192, 64]⟩
abbrev S2x256x8x128 : Shape := ⟨4, ![2, 256, 8, 128]⟩
abbrev S2x256x64 : Shape := ⟨3, ![2, 256, 64]⟩
abbrev S_ : Shape := ⟨0, ![]⟩
abbrev S2x8192x8x256 : Shape := ⟨4, ![2, 8192, 8, 256]⟩
abbrev S2x8192x2048 : Shape := ⟨3, ![2, 8192, 2048]⟩
abbrev S2x8448x8x128 : Shape := ⟨4, ![2, 8448, 8, 128]⟩
abbrev S2x8448x64 : Shape := ⟨3, ![2, 8448, 64]⟩
abbrev S2x8448x1x64 : Shape := ⟨4, ![2, 8448, 1, 64]⟩
abbrev S2x8448x8x64 : Shape := ⟨4, ![2, 8448, 8, 64]⟩
abbrev S2x8448x8x256 : Shape := ⟨4, ![2, 8448, 8, 256]⟩
abbrev S2x8448x2048 : Shape := ⟨3, ![2, 8448, 2048]⟩
abbrev S2x8192x1024 : Shape := ⟨3, ![2, 8192, 1024]⟩
abbrev S1x1024x256 : Shape := ⟨3, ![1, 1024, 256]⟩
abbrev S1x8448x256 : Shape := ⟨3, ![1, 8448, 256]⟩
abbrev S1x1024x128 : Shape := ⟨3, ![1, 1024, 128]⟩
abbrev S1024x1 : Shape := ⟨2, ![1024, 1]⟩
abbrev S1024x256 : Shape := ⟨2, ![1024, 256]⟩
abbrev S1x768x256 : Shape := ⟨3, ![1, 768, 256]⟩
abbrev S768x256 : Shape := ⟨2, ![768, 256]⟩
abbrev S1024x768 : Shape := ⟨2, ![1024, 768]⟩
abbrev S1024 : Shape := ⟨1, ![1024]⟩
abbrev S1024x128 : Shape := ⟨2, ![1024, 128]⟩

abbrev nBuf : Space → Nat
  | .hbm => 34
  | .vmem => 10
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x64, .f32⟩
  | .hbm, ⟨2, _⟩ => ⟨S2x8192x8x128, .f32⟩
  | .hbm, ⟨3, _⟩ => ⟨S2x8192x64, .f32⟩
  | .hbm, ⟨4, _⟩ => ⟨S2x8192x8x128, .f32⟩
  | .hbm, ⟨5, _⟩ => ⟨S2x256x8x128, .f32⟩
  | .hbm, ⟨6, _⟩ => ⟨S2x256x64, .f32⟩
  | .hbm, ⟨7, _⟩ => ⟨S2x256x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x8192x8x64, .f32⟩
  | .hbm, ⟨15, _⟩ => ⟨S2x8192x8x256, .f32⟩
  | .hbm, ⟨16, _⟩ => ⟨S2x8192x8x256, .f32⟩
  | .hbm, ⟨17, _⟩ => ⟨S2x8192x8x256, .f32⟩
  | .hbm, ⟨18, _⟩ => ⟨S2x8192x2048, .f32⟩
  | .hbm, ⟨19, _⟩ => ⟨S2x8192x2048, .bf16⟩
  | .hbm, ⟨20, _⟩ => ⟨S2x8448x8x128, .f32⟩
  | .hbm, ⟨21, _⟩ => ⟨S2x8448x64, .f32⟩
  | .hbm, ⟨22, _⟩ => ⟨S2x8448x8x128, .f32⟩
  | .hbm, ⟨23, _⟩ => ⟨S2x8448x1x64, .f32⟩
  | .hbm, ⟨24, _⟩ => ⟨S2x8448x8x64, .f32⟩
  | .hbm, ⟨25, _⟩ => ⟨S2x8448x8x256, .f32⟩
  | .hbm, ⟨26, _⟩ => ⟨S2x8448x2048, .f32⟩
  | .hbm, ⟨27, _⟩ => ⟨S2x8448x2048, .bf16⟩
  | .hbm, ⟨28, _⟩ => ⟨S_, .f32⟩
  | .hbm, ⟨29, _⟩ => ⟨S2x8448x8x128, .f32⟩
  | .hbm, ⟨30, _⟩ => ⟨S2x8448x8x256, .f32⟩
  | .hbm, ⟨31, _⟩ => ⟨S2x8448x2048, .f32⟩
  | .hbm, ⟨32, _⟩ => ⟨S2x8448x2048, .bf16⟩
  | .hbm, ⟨33, _⟩ => ⟨S2x8192x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x1024x128, .bf16⟩
  | .local _ .vmem, ⟨7, _⟩ => ⟨S1x1024x128, .bf16⟩
  | .local _ .vmem, ⟨8, _⟩ => ⟨S1024x1, .f32⟩
  | .local _ .vmem, ⟨9, _⟩ => ⟨S1024x256, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8192x8x128 : Shape := ⟨4, ![2, 8192, 8, 128]⟩
abbrev S2x8192x8x64 : Shape := ⟨4, ![2, 8192, 8, 64]⟩
abbrev S2x8192x64 : Shape := ⟨3, ![2, 8192, 64]⟩
abbrev S2x256x8x128 : Shape := ⟨4, ![2, 256, 8, 128]⟩
abbrev S2x256x64 : Shape := ⟨3, ![2, 256, 64]⟩
abbrev S2x8448x8x128 : Shape := ⟨4, ![2, 8448, 8, 128]⟩
abbrev S2x8448x64 : Shape := ⟨3, ![2, 8448, 64]⟩
abbrev S_ : Shape := ⟨0, ![]⟩
abbrev S2x8x8192x8448 : Shape := ⟨4, ![2, 8, 8192, 8448]⟩
abbrev S2x8448x8192x8 : Shape := ⟨4, ![2, 8448, 8192, 8]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x1024 : Shape := ⟨3, ![2, 8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x64, .f32⟩
  | .hbm, ⟨2, _⟩ => ⟨S2x8192x8x128, .f32⟩
  | .hbm, ⟨3, _⟩ => ⟨S2x8192x64, .f32⟩
  | .hbm, ⟨4, _⟩ => ⟨S2x8192x8x128, .f32⟩
  | .hbm, ⟨5, _⟩ => ⟨S2x256x8x128, .f32⟩
  | .hbm, ⟨6, _⟩ => ⟨S2x256x64, .f32⟩
  | .hbm, ⟨7, _⟩ => ⟨S2x256x8x128, .f32⟩
  | .hbm, ⟨8, _⟩ => ⟨S2x8448x8x128, .f32⟩
  | .hbm, ⟨9, _⟩ => ⟨S2x8448x64, .f32⟩
  | .hbm, ⟨10, _⟩ => ⟨S2x8448x8x128, .f32⟩
  | .hbm, ⟨11, _⟩ => ⟨S_, .f32⟩
  | .hbm, ⟨12, _⟩ => ⟨S_, .f32⟩
  | .hbm, ⟨13, _⟩ => ⟨S2x8x8192x8448, .f32⟩
  | .hbm, ⟨14, _⟩ => ⟨S2x8448x8192x8, .f32⟩
  | .hbm, ⟨15, _⟩ => ⟨S2x8x8192x8448, .f32⟩
  | .hbm, ⟨16, _⟩ => ⟨S2x8x8192x8448, .f32⟩
  | .hbm, ⟨17, _⟩ => ⟨S2x8x8192x8448, .f32⟩
  | .hbm, ⟨18, _⟩ => ⟨S2x8x8192x8448, .f32⟩
  | .hbm, ⟨19, _⟩ => ⟨S_, .f32⟩
  | .hbm, ⟨20, _⟩ => ⟨S2x8x8192, .f32⟩
  | .hbm, ⟨21, _⟩ => ⟨S_, .f32⟩
  | .hbm, ⟨22, _⟩ => ⟨S2x8x8192, .f32⟩
  | .hbm, ⟨23, _⟩ => ⟨S2x8x8192, .f32⟩
  | .hbm, ⟨24, _⟩ => ⟨S2x8x8192x1, .f32⟩
  | .hbm, ⟨25, _⟩ => ⟨S2x8x8192x8448, .f32⟩
  | .hbm, ⟨26, _⟩ => ⟨S2x8x8192x8448, .f32⟩
  | .hbm, ⟨27, _⟩ => ⟨S2x8x8192x8448, .f32⟩
  | .hbm, ⟨28, _⟩ => ⟨S_, .f32⟩
  | .hbm, ⟨29, _⟩ => ⟨S2x8x8192, .f32⟩
  | .hbm, ⟨30, _⟩ => ⟨S2x8x8192x1, .f32⟩
  | .hbm, ⟨31, _⟩ => ⟨S2x8x8192x8448, .f32⟩
  | .hbm, ⟨32, _⟩ => ⟨S2x8x8192x8448, .f32⟩
  | .hbm, ⟨33, _⟩ => ⟨S2x8x128x8192, .f32⟩
  | .hbm, ⟨34, _⟩ => ⟨S2x8192x8x128, .f32⟩
  | .hbm, ⟨35, _⟩ => ⟨S2x8192x1024, .f32⟩
  | .hbm, ⟨36, _⟩ => ⟨S2x8192x1024, .bf16⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x256x1024 : Shape := ⟨3, ![2, 256, 1024]⟩
abbrev S2x6x1024 : Shape := ⟨3, ![2, 6, 1024]⟩
abbrev S6x1024 : Shape := ⟨2, ![6, 1024]⟩
abbrev S1024 : Shape := ⟨1, ![1024]⟩
abbrev S1024x2816 : Shape := ⟨2, ![1024, 2816]⟩
abbrev S2816x1024 : Shape := ⟨2, ![2816, 1024]⟩
abbrev S2x8448x1024 : Shape := ⟨3, ![2, 8448, 1024]⟩
abbrev S1x6x1024 : Shape := ⟨3, ![1, 6, 1024]⟩
abbrev S3x6x1024 : Shape := ⟨3, ![3, 6, 1024]⟩
abbrev S_ : Shape := ⟨0, ![]⟩
abbrev S3x8x1024 : Shape := ⟨3, ![3, 8, 1024]⟩
abbrev S1x1024 : Shape := ⟨2, ![1, 1024]⟩
abbrev S1x768x1024 : Shape := ⟨3, ![1, 768, 1024]⟩
abbrev S768x1024 : Shape := ⟨2, ![768, 1024]⟩
abbrev S1x256x1024 : Shape := ⟨3, ![1, 256, 1024]⟩
abbrev S256x1024 : Shape := ⟨2, ![256, 1024]⟩
abbrev S1x8x1024 : Shape := ⟨3, ![1, 8, 1024]⟩
abbrev S8x1024 : Shape := ⟨2, ![8, 1024]⟩
abbrev S256 : Shape := ⟨1, ![256]⟩
abbrev S256x1 : Shape := ⟨2, ![256, 1]⟩
abbrev S1024x1408 : Shape := ⟨2, ![1024, 1408]⟩
abbrev S768x1408 : Shape := ⟨2, ![768, 1408]⟩
abbrev S1408x1024 : Shape := ⟨2, ![1408, 1024]⟩

abbrev nBuf : Space → Nat
  | .hbm => 21
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x6x1024, .f32⟩
  | .hbm, ⟨3, _⟩ => ⟨S6x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S2x8448x1024, .f32⟩
  | .hbm, ⟨10, _⟩ => ⟨S1x6x1024, .f32⟩
  | .hbm, ⟨11, _⟩ => ⟨S3x6x1024, .f32⟩
  | .hbm, ⟨12, _⟩ => ⟨S_, .i32⟩
  | .hbm, ⟨13, _⟩ => ⟨S_, .f32⟩
  | .hbm, ⟨14, _⟩ => ⟨S3x8x1024, .f32⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S1x1024, .f32⟩
  | .hbm, ⟨20, _⟩ => ⟨S2x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S3x8x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x768x1024, .f32⟩
  | .local _ .vmem, ⟨9, _⟩ => ⟨S1x768x1024, .f32⟩
  | .local _ .vmem, ⟨10, _⟩ => ⟨S768x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 11], ![false, false]⟩

def k0_off1 (i : grid0.Coords) (c0_i32 : BitVec 32) : Fin 3 → Nat :=
  let arg1 : BitVec 32 := BitVec.ofNat 32 (i 1).val
  let c3_i32 : BitVec 32 := 3#32
  let v0 : BitVec 32 := Scalar.muli arg1 c3_i32
  let v7 : BitVec 32 := Scalar.addi v0 c0_i32
  let c32_i32 : BitVec 32 := 32#32
  let v8 : BitVec 1 := Scalar.cmpi .eq v7 c32_i32
  let c0_i32_6 : BitVec 32 := 0#32
  let arg0 : BitVec 32 := BitVec.ofNat 32 (i 0).val
  let c1_i32 : BitVec 32 := 1#32
  let v9 : BitVec 32 := Scalar.addi arg0 c1_i32
  let v10 : BitVec 32 := Scalar.select v8 c0_i32_6 v9
  let v11 : Index := Scalar.indexCast v10
  let c0_7 : Index := 0#32
  let c0_8 : Index := 0#32
  ![v11.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x8192x1024 : Shape := ⟨3, ![2, 8192, 1024]⟩
abbrev S2x256x1024 : Shape := ⟨3, ![2, 256, 1024]⟩
abbrev S2x6x1024 : Shape := ⟨3, ![2, 6, 1024]⟩
abbrev S6x1024 : Shape := ⟨2, ![6, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x2816 : Shape := ⟨3, ![2, 8192, 2816]⟩
abbrev S1x6x1024 : Shape := ⟨3, ![1, 6, 1024]⟩
abbrev S2x256 : Shape := ⟨2, ![2, 256]⟩
abbrev S2x256x1 : Shape := ⟨3, ![2, 256, 1]⟩
abbrev S2x256x2816 : Shape := ⟨3, ![2, 256, 2816]⟩
abbrev S2x8448x1024 : Shape := ⟨3, ![2, 8448, 1024]⟩

abbrev nBuf : Space → Nat
  | .hbm => 127
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x6x1024, .f32⟩
  | .hbm, ⟨3, _⟩ => ⟨S6x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S_, .f32⟩
  | .hbm, ⟨38, _⟩ => ⟨S2x8192x2816, .f32⟩
  | .hbm, ⟨39, _⟩ => ⟨S2x8192x2816, .f32⟩
  | .hbm, ⟨40, _⟩ => ⟨S_, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x1024, .f32⟩
  | .hbm, ⟨47, _⟩ => ⟨S2x1x1024, .f32⟩
  | .hbm, ⟨48, _⟩ => ⟨S2x8192x1024, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S1x1x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S1x6x1024, .f32⟩
  | .hbm, ⟨68, _⟩ => ⟨S2x256x1024, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S2x256x1, .f32⟩
  | .hbm, ⟨79, _⟩ => ⟨S2x256x1024, .f32⟩
  | .hbm, ⟨80, _⟩ => ⟨S2x256x1024, .f32⟩
  | .hbm, ⟨81, _⟩ => ⟨S1x1x1024, .f32⟩
  | .hbm, ⟨82, _⟩ => ⟨S2x256x1024, .f32⟩
  | .hbm, ⟨83, _⟩ => ⟨S2x256x1024, .f32⟩
  | .hbm, ⟨84, _⟩ => ⟨S1x1x1024, .f32⟩
  | .hbm, ⟨85, _⟩ => ⟨S_, .f32⟩
  | .hbm, ⟨86, _⟩ => ⟨S1x1x1024, .f32⟩
  | .hbm, ⟨87, _⟩ => ⟨S1x1x1024, .f32⟩
  | .hbm, ⟨88, _⟩ => ⟨S2x256x1024, .f32⟩
  | .hbm, ⟨89, _⟩ => ⟨S2x256x1024, .f32⟩
  | .hbm, ⟨90, _⟩ => ⟨S1x1x1024, .f32⟩
  | .hbm, ⟨91, _⟩ => ⟨S2x256x1024, .f32⟩
  | .hbm, ⟨92, _⟩ => ⟨S2x256x1024, .f32⟩
  | .hbm, ⟨93, _⟩ => ⟨S2x256x2816, .f32⟩
  | .hbm, ⟨94, _⟩ => ⟨S2x256x2816, .f32⟩
  | .hbm, ⟨95, _⟩ => ⟨S2x256x2816, .f32⟩
  | .hbm, ⟨96, _⟩ => ⟨S_, .f32⟩
  | .hbm, ⟨97, _⟩ => ⟨S2x256x2816, .f32⟩
  | .hbm, ⟨98, _⟩ => ⟨S2x256x2816, .f32⟩
  | .hbm, ⟨99, _⟩ => ⟨S_, .f32⟩
  | .hbm, ⟨100, _⟩ => ⟨S2x256x2816, .f32⟩
  | .hbm, ⟨101, _⟩ => ⟨S2x256x2816, .f32⟩
  | .hbm, ⟨102, _⟩ => ⟨S2x256x2816, .f32⟩
  | .hbm, ⟨103, _⟩ => ⟨S2x256x2816, .f32⟩
  | .hbm, ⟨104, _⟩ => ⟨S2x256x2816, .f32⟩
  | .hbm, ⟨105, _⟩ => ⟨S2x256x1024, .f32⟩
  | .hbm, ⟨106, _⟩ => ⟨S1x1x1024, .f32⟩
  | .hbm, ⟨107, _⟩ => ⟨S2x256x1024, .f32⟩
  | .hbm, ⟨108, _⟩ => ⟨S_, .f32⟩
  | .hbm, ⟨109, _⟩ => ⟨S2x256, .f32⟩
  | .hbm, ⟨110, _⟩ => ⟨S2x256x1, .f32⟩
  | .hbm, ⟨111, _⟩ => ⟨S_, .f32⟩
  | .hbm, ⟨112, _⟩ => ⟨S2x256x1, .f32⟩
  | .hbm, ⟨113, _⟩ => ⟨S2x256x1, .f32⟩
  | .hbm, ⟨114, _⟩ => ⟨S_, .f32⟩
  | .hbm, ⟨115, _⟩ => ⟨S2x256x1, .f32⟩
  | .hbm, ⟨116, _⟩ => ⟨S2x256x1, .f32⟩
  | .hbm, ⟨117, _⟩ => ⟨S2x256x1, .f32⟩
  | .hbm, ⟨118, _⟩ => ⟨S2x256x1024, .f32⟩
  | .hbm, ⟨119, _⟩ => ⟨S2x256x1024, .f32⟩
  | .hbm, ⟨120, _⟩ => ⟨S1x1x1024, .f32⟩
  | .hbm, ⟨121, _⟩ => ⟨S2x256x1024, .f32⟩
  | .hbm, ⟨122, _⟩ => ⟨S2x256x1024, .f32⟩
  | .hbm, ⟨123, _⟩ => ⟨S2x256x1024, .f32⟩
  | .hbm, ⟨124, _⟩ => ⟨S2x256x1024, .f32⟩
  | .hbm, ⟨125, _⟩ => ⟨S2x256x1024, .f32⟩
  | .hbm, ⟨126, _⟩ => ⟨S2x8448x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_10 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_cst_12 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩

abbrev nD : Nat := 1
abbrev τ : Topo := Topo.v7x

variable {F : FTy → Type} [FloatOps F]
-- ==== Kernel3.lean ====
abbrev S140 : Shape := ⟨1, ![140]⟩
abbrev S1 : Shape := ⟨1, ![1]⟩
abbrev S286720x128 : Shape := ⟨2, ![286720, 128]⟩
abbrev S2x8x1024x1408 : Shape := ⟨4, ![2, 8, 1024, 1408]⟩
abbrev S2x8x1408x1024 : Shape := ⟨4, ![2, 8, 1408, 1024]⟩
abbrev S2048x128 : Shape := ⟨2, ![2048, 128]⟩
abbrev S1x1x1024x1408 : Shape := ⟨4, ![1, 1, 1024, 1408]⟩
abbrev S1x1x1408x1024 : Shape := ⟨4, ![1, 1, 1408, 1024]⟩
abbrev S1024x1408 : Shape := ⟨2, ![1024, 1408]⟩
abbrev S1408x1024 : Shape := ⟨2, ![1408, 1024]⟩
abbrev S256x128 : Shape := ⟨2, ![256, 128]⟩
abbrev S256x1024 : Shape := ⟨2, ![256, 1024]⟩
abbrev S256x1408 : Shape := ⟨2, ![256, 1408]⟩

abbrev nBuf : Space → Nat
  | .hbm => 5
  | .vmem => 13
  | .smem => 2
  | _ => 0

abbrev bufTy : (tb : Table) → Fin (tcTables nBuf tb) → BufTy
  | .hbm, ⟨0, _⟩ => ⟨S286720x128, .f32⟩
  | .hbm, ⟨1, _⟩ => ⟨S2x8x1024x1408, .f32⟩
  | .hbm, ⟨2, _⟩ => ⟨S2x8x1024x1408, .f32⟩
  | .hbm, ⟨3, _⟩ => ⟨S2x8x1408x1024, .f32⟩
  | .hbm, ⟨4, _⟩ => ⟨S286720x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x1408, .f32⟩
  | .local _ .vmem, ⟨3, _⟩ => ⟨S1x1x1024x1408, .f32⟩
  | .local _ .vmem, ⟨4, _⟩ => ⟨S1x1x1024x1408, .f32⟩
  | .local _ .vmem, ⟨5, _⟩ => ⟨S1x1x1024x1408, .f32⟩
  | .local _ .vmem, ⟨6, _⟩ => ⟨S1x1x1408x1024, .f32⟩
  | .local _ .vmem, ⟨7, _⟩ => ⟨S1x1x1408x1024, .f32⟩
  | .local _ .vmem, ⟨8, _⟩ => ⟨S2048x128, .f32⟩
  | .local _ .vmem, ⟨9, _⟩ => ⟨S2048x128, .f32⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .smem, ⟨0, _⟩ => ⟨S140, .i32⟩
  | .local _ .smem, ⟨1, _⟩ => ⟨S1, .i32⟩
  | _, _ => ⟨S286720x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![140], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S140.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S140 : Shape := ⟨1, ![140]⟩
abbrev S1 : Shape := ⟨1, ![1]⟩
abbrev S286720x128 : Shape := ⟨2, ![286720, 128]⟩
abbrev S2x8x1024x1408 : Shape := ⟨4, ![2, 8, 1024, 1408]⟩
abbrev S2x8x1408x1024 : Shape := ⟨4, ![2, 8, 1408, 1024]⟩
abbrev S140x256x1024 : Shape := ⟨3, ![140, 256, 1024]⟩
abbrev S1x8x1024x1408 : Shape := ⟨4, ![1, 8, 1024, 1408]⟩
abbrev S8x1024x1408 : Shape := ⟨3, ![8, 1024, 1408]⟩
abbrev S140x256x8x1408 : Shape := ⟨4, ![140, 256, 8, 1408]⟩
abbrev S_ : Shape := ⟨0, ![]⟩
abbrev S1x8x1408x1024 : Shape := ⟨4, ![1, 8, 1408, 1024]⟩
abbrev S8x1408x1024 : Shape := ⟨3, ![8, 1408, 1024]⟩
abbrev S8x140x256x1024 : Shape := ⟨4, ![8, 140, 256, 1024]⟩
abbrev S8 : Shape := ⟨1, ![8]⟩
abbrev S8x1 : Shape := ⟨2, ![8, 1]⟩
abbrev S1x140 : Shape := ⟨2, ![1, 140]⟩
abbrev S8x140 : Shape := ⟨2, ![8, 140]⟩
abbrev S8x140x1x1 : Shape := ⟨4, ![8, 140, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S140, .i32⟩
  | .hbm, ⟨1, _⟩ => ⟨S1, .i32⟩
  | .hbm, ⟨2, _⟩ => ⟨S286720x128, .f32⟩
  | .hbm, ⟨3, _⟩ => ⟨S2x8x1024x1408, .f32⟩
  | .hbm, ⟨4, _⟩ => ⟨S2x8x1024x1408, .f32⟩
  | .hbm, ⟨5, _⟩ => ⟨S2x8x1408x1024, .f32⟩
  | .hbm, ⟨6, _⟩ => ⟨S140x256x1024, .f32⟩
  | .hbm, ⟨7, _⟩ => ⟨S1x8x1024x1408, .f32⟩
  | .hbm, ⟨8, _⟩ => ⟨S8x1024x1408, .f32⟩
  | .hbm, ⟨9, _⟩ => ⟨S140x256x8x1408, .f32⟩
  | .hbm, ⟨10, _⟩ => ⟨S140x256x8x1408, .f32⟩
  | .hbm, ⟨11, _⟩ => ⟨S140x256x8x1408, .f32⟩
  | .hbm, ⟨12, _⟩ => ⟨S_, .f32⟩
  | .hbm, ⟨13, _⟩ => ⟨S140x256x8x1408, .f32⟩
  | .hbm, ⟨14, _⟩ => ⟨S140x256x8x1408, .f32⟩
  | .hbm, ⟨15, _⟩ => ⟨S_, .f32⟩
  | .hbm, ⟨16, _⟩ => ⟨S140x256x8x1408, .f32⟩
  | .hbm, ⟨17, _⟩ => ⟨S140x256x8x1408, .f32⟩
  | .hbm, ⟨18, _⟩ => ⟨S140x256x8x1408, .f32⟩
  | .hbm, ⟨19, _⟩ => ⟨S1x8x1024x1408, .f32⟩
  | .hbm, ⟨20, _⟩ => ⟨S8x1024x1408, .f32⟩
  | .hbm, ⟨21, _⟩ => ⟨S140x256x8x1408, .f32⟩
  | .hbm, ⟨22, _⟩ => ⟨S140x256x8x1408, .f32⟩
  | .hbm, ⟨23, _⟩ => ⟨S1x8x1408x1024, .f32⟩
  | .hbm, ⟨24, _⟩ => ⟨S8x1408x1024, .f32⟩
  | .hbm, ⟨25, _⟩ => ⟨S8x140x256x1024, .f32⟩
  | .hbm, ⟨26, _⟩ => ⟨S8, .i32⟩
  | .hbm, ⟨27, _⟩ => ⟨S8x1, .i32⟩
  | .hbm, ⟨28, _⟩ => ⟨S1x140, .i32⟩
  | .hbm, ⟨29, _⟩ => ⟨S8x140, .i32⟩
  | .hbm, ⟨30, _⟩ => ⟨S8x140, .i32⟩
  | .hbm, ⟨31, _⟩ => ⟨S8x140, .i1⟩
  | .hbm, ⟨32, _⟩ => ⟨S140, .i32⟩
  | .hbm, ⟨33, _⟩ => ⟨S140, .i32⟩
  | .hbm, ⟨34, _⟩ => ⟨S140, .i1⟩
  | .hbm, ⟨35, _⟩ => ⟨S1x140, .i1⟩
  | .hbm, ⟨36, _⟩ => ⟨S8x140, .i1⟩
  | .hbm, ⟨37, _⟩ => ⟨S8x140, .i1⟩
  | .hbm, ⟨38, _⟩ => ⟨S8x140x1x1, .i1⟩
  | .hbm, ⟨39, _⟩ => ⟨S_, .i32⟩
  | .hbm, ⟨40, _⟩ => ⟨S_, .f32⟩
  | .hbm, ⟨41, _⟩ => ⟨S8x140x256x1024, .i1⟩
  | .hbm, ⟨42, _⟩ => ⟨S8x140x256x1024, .f32⟩
  | .hbm, ⟨43, _⟩ => ⟨S8x140x256x1024, .f32⟩
  | .hbm, ⟨44, _⟩ => ⟨S_, .f32⟩
  | .hbm, ⟨45, _⟩ => ⟨S140x256x1024, .f32⟩
  | .hbm, ⟨46, _⟩ => ⟨S286720x128, .f32⟩
  | _, _ => ⟨S140, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Proof.AttnBlock.lean ====
/- What one grid point of the attention call computes, as a recursion over the eleven blocks of 768 keys:
   the running row maximum, and the accumulator that is rescaled when the maximum moves. -/
module

public import proofs.«01_k».proof.Proof.Gen.KernelIdeal.Value
public import Idealize.ShloMosaic.Lib.Pipeline.ValueKit

@[expose] public section
noncomputable section
namespace Cert.KernelIdeal.Hand
open Cert.KernelIdeal Cert.KernelIdeal.Gen Idealize.ShloMosaic Idealize.ShloMosaic.TcCoe Idealize.SL.Sem Idealize.ShloMosaic.Tactic
open Idealize.ShloMosaic.Pipeline (Dat)
open Facts
variable {F : FTy → Type} [FloatOps F]
variable (m : (ℓ : Loc nD τ sig) → Buf (Elt F) ℓ)

/-- Block `n` of the 768 rows of a staged array of keys or values lies inside it. -/
theorem rows_inb (n : ℕ) (h : n < 11) (a : Fin S1x8448x256.rank) :
    (![0, 768 * n, 0] : Fin 3 → ℕ) a + S1x768x256.size a ≤ S1x8448x256.size a := by
  match a with
  | ⟨0, _⟩ => exact Nat.le_refl 1
  | ⟨1, _⟩ => show 768 * n + 768 ≤ 8448; omega
  | ⟨2, _⟩ => exact Nat.le_refl 256

/-- Block `n` of the rows of a staged array. -/
def rowsAt (x : Vec F S1x8448x256 .bf16) (n : ℕ) (h : n < 11) : FVec F S768x256 .bf16 :=
  shapeCast S768x256 (View.ld x (Rect.unit (s := S1x8448x256) ![0, 768 * n, 0] S1x768x256.size (rows_inb n h)))
    shapeCasts_S1x768x256_S768x256

/-- The scores of the 1024 queries against block `n` of the keys. -/
def scoreAt (q : Vec F S1x1024x256 .bf16) (k : Vec F S1x8448x256 .bf16) (n : ℕ) (h : n < 11) : FVec F S1024x768 .f32 :=
  matmul dot_S1024x256_S768x256_S1024x768_1_1_0_0_n_n none
    (shapeCast S1024x256 q shapeCasts_S1x1024x256_S1024x256 : FVec F S1024x256 .bf16) (rowsAt k n h)
    (constant S1024x768 .f32 0x00000000#32)

/-- The row maxima of block `n`'s scores. -/
def topAt (q : Vec F S1x1024x256 .bf16) (k : Vec F S1x8448x256 .bf16) (n : ℕ) (h : n < 11) : FVec F S1024x1 .f32 :=
  shapeCast S1024x1 (multiReduction .maximumf [1] S1024 (scoreAt q k n h) 0xFF800000#32 reduces_S1024x768_S1024 (.inl rfl) rfl :
    FVec F S1024 .f32) shapeCasts_S1024_S1024x1

/-- The running maximum after block `n`, as it is stored; the maximum that block `n + 1` works with. -/
def maxAt (q : Vec F S1x1024x256 .bf16) (k : Vec F S1x8448x256 .bf16) : (n : ℕ) → n < 11 → FVec F S1024x1 .f32
  | 0, h => topAt q k 0 h
  | n + 1, h => maximumf (shapeCast S1024x1 (maxAt q k n (by omega)) shapeCasts_S1024x1_S1024x1) (topAt q k (n + 1) h)

/-- The stored running maximum after block `n`. -/
def maxSt (q : Vec F S1x1024x256 .bf16) (k : Vec F S1x8448x256 .bf16) (n : ℕ) (h : n < 11) : FVec F S1024x1 .f32 :=
  shapeCast S1024x1 (maxAt q k n h) shapeCasts_S1024x1_S1024x1

/-- Block `n`'s weights, relative to the running maximum, times its values. -/
def partAt (q : Vec F S1x1024x256 .bf16) (k v : Vec F S1x8448x256 .bf16) (n : ℕ) (h : n < 11) : FVec F S1024x256 .f32 :=
  matmul dot_S1024x768_S768x256_S1024x256_1_0_0_1_n_n none
    (truncf .bf16 (exp2 (subf (scoreAt q k n h) (broadcastTo S1024x768 (maxAt q k n h) broadcasts_S1024x1_S1024x768))) bitsLt_bf16_f32 :
      FVec F S1024x768 .bf16) (rowsAt v n h) (constant S1024x256 .f32 0x00000000#32)

/-- The accumulator after block `n`. -/
def accAt (q : Vec F S1x1024x256 .bf16) (k v : Vec F S1x8448x256 .bf16) : (n : ℕ) → n < 11 → FVec F S1024x256 .f32
  | 0, h => shapeCast S1024x256 (partAt q k v 0 h) shapeCasts_S1024x256_S1024x256
  | n + 1, h => shapeCast S1024x256
    (addf (mulf (broadcastTo S1024x256 (exp2 (subf (maxSt q k n (by omega)) (maxAt q k (n + 1) h))) broadcasts_S1024x1_S1024x256)
      (accAt q k v n (by omega))) (partAt q k v (n + 1) h)) shapeCasts_S1024x256_S1024x256

/-- The block of the result: the first 128 lanes of the accumulator over the last 128. -/
def outAt (q : Vec F S1x1024x256 .bf16) (k v : Vec F S1x8448x256 .bf16) : Vec F S1x1024x128 .bf16 :=
  k0_pay3 (accAt q k v 10 (by omega))

section Steps
variable (q : Vec F S1x1024x256 .bf16) (k v : Vec F S1x8448x256 .bf16)

theorem max_0 : k0_pay8 q (View.ld k (Rect.unit ![0, 0, 0] ![1, 768, 256] inb_S1x8448x256_S1x768x256_0_0_0)) = (maxSt q k 0 (by omega)) := rfl
theorem max_1 : k0_pay13 (k0_pay10 q (View.ld k (Rect.unit ![0, 768, 0] ![1, 768, 256] inb_S1x8448x256_S1x768x256_0_768_0)) (maxSt q k 0 (by omega))) = (maxSt q k 1 (by omega)) := rfl
theorem max_2 : k0_pay18 (k0_pay15 (k0_pay4 q) (View.ld k (Rect.unit ![0, 1536, 0] ![1, 768, 256] inb_S1x8448x256_S1x768x256_0_1536_0)) (maxSt q k 1 (by omega))) = (maxSt q k 2 (by omega)) := rfl
theorem max_3 : k0_pay22 (k0_pay4 q) (View.ld k (Rect.unit ![0, 2304, 0] ![1, 768, 256] inb_S1x8448x256_S1x768x256_0_2304_0)) (maxSt q k 2 (by omega)) = (maxSt q k 3 (by omega)) := rfl
theorem max_4 : k0_pay26 (k0_pay4 q) (View.ld k (Rect.unit ![0, 3072, 0] ![1, 768, 256] inb_S1x8448x256_S1x768x256_0_3072_0)) (maxSt q k 3 (by omega)) = (maxSt q k 4 (by omega)) := rfl
theorem max_5 : k0_pay31 (k0_pay28 (k0_pay4 q) (View.ld k (Rect.unit ![0, 3840, 0] ![1, 768, 256] inb_S1x8448x256_S1x768x256_0_3840_0)) (maxSt q k 4 (by omega))) = (maxSt q k 5 (by omega)) := rfl
theorem max_6 : k0_pay36 (k0_pay33 (k0_pay4 q) (View.ld k (Rect.unit ![0, 4608, 0] ![1, 768, 256] inb_S1x8448x256_S1x768x256_0_4608_0)) (maxSt q k 5 (by omega))) = (maxSt q k 6 (by omega)) := rfl
theorem max_7 : k0_pay40 (k0_pay4 q) (View.ld k (Rect.unit ![0, 5376, 0] ![1, 768, 256] inb_S1x8448x256_S1x768x256_0_5376_0)) (maxSt q k 6 (by omega)) = (maxSt q k 7 (by omega)) := rfl
theorem max_8 : k0_pay44 (k0_pay4 q) (View.ld k (Rect.unit ![0, 6144, 0] ![1, 768, 256] inb_S1x8448x256_S1x768x256_0_6144_0)) (maxSt q k 7 (by omega)) = (maxSt q k 8 (by omega)) := rfl
theorem max_9 : k0_pay49 (k0_pay46 (k0_pay4 q) (View.ld k (Rect.unit ![0, 6912, 0] ![1, 768, 256] inb_S1x8448x256_S1x768x256_0_6912_0)) (maxSt q k 8 (by omega))) = (maxSt q k 9 (by omega)) := rfl
theorem acc_0 : k0_pay7 q (View.ld k (Rect.unit ![0, 0, 0] ![1, 768, 256] inb_S1x8448x256_S1x768x256_0_0_0)) (View.ld v (Rect.unit ![0, 0, 0] ![1, 768, 256] inb_S1x8448x256_S1x768x256_0_0_0)) = (accAt q k v 0 (by omega)) := rfl
theorem acc_1 : k0_pay12 (k0_pay9 q (View.ld k (Rect.unit ![0, 768, 0] ![1, 768, 256] inb_S1x8448x256_S1x768x256_0_768_0))) (k0_pay10 q (View.ld k (Rect.unit ![0, 768, 0] ![1, 768, 256] inb_S1x8448x256_S1x768x256_0_768_0)) (maxSt q k 0 (by omega))) (k0_pay11 q (View.ld k (Rect.unit ![0, 768, 0] ![1, 768, 256] inb_S1x8448x256_S1x768x256_0_768_0)) (maxSt q k 0 (by omega))) (accAt q k v 0 (by omega)) (View.ld v (Rect.unit ![0, 768, 0] ![1, 768, 256] inb_S1x8448x256_S1x768x256_0_768_0)) = (accAt q k v 1 (by omega)) := rfl
theorem acc_2 : k0_pay17 (k0_pay16 (k0_pay4 q) (View.ld k (Rect.unit ![0, 1536, 0] ![1, 768, 256] inb_S1x8448x256_S1x768x256_0_1536_0)) (maxSt q k 1 (by omega)) (accAt q k v 1 (by omega)) (View.ld v (Rect.unit ![0, 1536, 0] ![1, 768, 256] inb_S1x8448x256_S1x768x256_0_1536_0))) = (accAt q k v 2 (by omega)) := rfl
theorem acc_3 : k0_pay21 (k0_pay4 q) (View.ld k (Rect.unit ![0, 2304, 0] ![1, 768, 256] inb_S1x8448x256_S1x768x256_0_2304_0)) (maxSt q k 2 (by omega)) (accAt q k v 2 (by omega)) (View.ld v (Rect.unit ![0, 2304, 0] ![1, 768, 256] inb_S1x8448x256_S1x768x256_0_2304_0)) = (accAt q k v 3 (by omega)) := rfl
theorem acc_4 : k0_pay25 (k0_pay4 q) (View.ld k (Rect.unit ![0, 3072, 0] ![1, 768, 256] inb_S1x8448x256_S1x768x256_0_3072_0)) (maxSt q k 3 (by omega)) (accAt q k v 3 (by omega)) (View.ld v (Rect.unit ![0, 3072, 0] ![1, 768, 256] inb_S1x8448x256_S1x768x256_0_3072_0)) = (accAt q k v 4 (by omega)) := rfl
theorem acc_5 : k0_pay30 (k0_pay27 (k0_pay4 q) (View.ld k (Rect.unit ![0, 3840, 0] ![1, 768, 256] inb_S1x8448x256_S1x768x256_0_3840_0))) (k0_pay28 (k0_pay4 q) (View.ld k (Rect.unit ![0, 3840, 0] ![1, 768, 256] inb_S1x8448x256_S1x768x256_0_3840_0)) (maxSt q k 4 (by omega))) (k0_pay29 (k0_pay4 q) (View.ld k (Rect.unit ![0, 3840, 0] ![1, 768, 256] inb_S1x8448x256_S1x768x256_0_3840_0)) (maxSt q k 4 (by omega))) (accAt q k v 4 (by omega)) (View.ld v (Rect.unit ![0, 3840, 0] ![1, 768, 256] inb_S1x8448x256_S1x768x256_0_3840_0)) = (accAt q k v 5 (by omega)) := rfl
theorem acc_6 : k0_pay35 (k0_pay34 (k0_pay4 q) (View.ld k (Rect.unit ![0, 4608, 0] ![1, 768, 256] inb_S1x8448x256_S1x768x256_0_4608_0)) (maxSt q k 5 (by omega)) (accAt q k v 5 (by omega)) (View.ld v (Rect.unit ![0, 4608, 0] ![1, 768, 256] inb_S1x8448x256_S1x768x256_0_4608_0))) = (accAt q k v 6 (by omega)) := rfl
theorem acc_7 : k0_pay39 (k0_pay4 q) (View.ld k (Rect.unit ![0, 5376, 0] ![1, 768, 256] inb_S1x8448x256_S1x768x256_0_5376_0)) (maxSt q k 6 (by omega)) (accAt q k v 6 (by omega)) (View.ld v (Rect.unit ![0, 5376, 0] ![1, 768, 256] inb_S1x8448x256_S1x768x256_0_5376_0)) = (accAt q k v 7 (by omega)) := rfl
theorem acc_8 : k0_pay43 (k0_pay4 q) (View.ld k (Rect.unit ![0, 6144, 0] ![1, 768, 256] inb_S1x8448x256_S1x768x256_0_6144_0)) (maxSt q k 7 (by omega)) (accAt q k v 7 (by omega)) (View.ld v (Rect.unit ![0, 6144, 0] ![1, 768, 256] inb_S1x8448x256_S1x768x256_0_6144_0)) = (accAt q k v 8 (by omega)) := rfl
theorem acc_9 : k0_pay48 (k0_pay45 (k0_pay4 q) (View.ld k (Rect.unit ![0, 6912, 0] ![1, 768, 256] inb_S1x8448x256_S1x768x256_0_6912_0))) (k0_pay46 (k0_pay4 q) (View.ld k (Rect.unit ![0, 6912, 0] ![1, 768, 256] inb_S1x8448x256_S1x768x256_0_6912_0)) (maxSt q k 8 (by omega))) (k0_pay47 (k0_pay4 q) (View.ld k (Rect.unit ![0, 6912, 0] ![1, 768, 256] inb_S1x8448x256_S1x768x256_0_6912_0)) (maxSt q k 8 (by omega))) (accAt q k v 8 (by omega)) (View.ld v (Rect.unit ![0, 6912, 0] ![1, 768, 256] inb_S1x8448x256_S1x768x256_0_6912_0)) = (accAt q k v 9 (by omega)) := rfl
theorem acc_10 : k0_pay1 (k0_pay52 (k0_pay4 q) (View.ld k (Rect.unit ![0, 7680, 0] ![1, 768, 256] inb_S1x8448x256_S1x768x256_0_7680_0)) (maxSt q k 9 (by omega)) (accAt q k v 9 (by omega)) (View.ld v (Rect.unit ![0, 7680, 0] ![1, 768, 256] inb_S1x8448x256_S1x768x256_0_7680_0))) = (accAt q k v 10 (by omega)) := rfl
end Steps

set_option maxHeartbeats 4000000 in
/-- The block that grid point `t` writes. -/
theorem outs_eq (c : Dev nD) (t : Fin cfg0.N) :
    outsAt0 m c t = outAt (iblk m c 0 t) (iblk m c 1 t) (iblk m c 2 t) := by
  unfold outsAt0
  frame_out
  unfold outAt
  refine congrArg k0_pay3 ?_
  simp only [max_0, max_1, max_2, max_3, max_4, max_5, max_6, max_7, max_8, max_9, acc_0, acc_1, acc_2, acc_3, acc_4, acc_5, acc_6, acc_7, acc_8, acc_9, acc_10]
end Cert.KernelIdeal.Hand
end
-- ==== Proof.AttnMath.lean ====
/- The arithmetic of a softmax that is taken block by block with a moving maximum, over the extended reals:
   the accumulator is the sum of all weighted values seen so far, and the quotient of two accumulators does not
   depend on the maxima that were used. -/
module

public import Idealize.ShloMosaic.PureOps.Ideal.Laws
public import Mathlib.Analysis.SpecialFunctions.Pow.Real

@[expose] public section
noncomputable section
namespace Cert.Attn
open Idealize.ShloMosaic

/-- The value is a real number. -/
def IsReal (x : EReal) : Prop := ∃ r : ℝ, x = (r : EReal)

theorem IsReal.coe (r : ℝ) : IsReal (r : EReal) := ⟨r, rfl⟩
theorem IsReal.max {x y : EReal} (hx : IsReal x) (hy : IsReal y) : IsReal (Max.max x y) := by
  rcases max_choice x y with h | h <;> rw [h] <;> assumption

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem mul_sum_coe {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The maximum of real numbers, taken from below everything, is one of them. -/
theorem isReal_fold_max {ι : Type*} (s : Finset ι) (hs : s.Nonempty) (f : ι → EReal) (hf : ∀ i, IsReal (f i)) :
    IsReal (s.fold Max.max ⊥ f) := by
  classical
  induction hs using Finset.Nonempty.cons_induction with
  | singleton a => simpa using hf a
  | cons a s ha _ ih => rw [Finset.fold_cons]; exact (hf a).max ih

/-- `2 ^ r`. -/
def two (r : ℝ) : ℝ := Real.rpow 2 r

theorem two_eq (r : ℝ) : two r = Real.exp (Real.log 2 * r) := Real.rpow_def_of_pos (by norm_num) r

theorem two_pos (r : ℝ) : 0 < two r := by rw [two_eq]; exact Real.exp_pos _

theorem two_add (a b : ℝ) : two (a + b) = two a * two b := by
  rw [two_eq, two_eq, two_eq, mul_add, Real.exp_add]

/-- The accumulator after each block is the sum of everything seen, with weights relative to the present maximum. -/
theorem online {ι : Type*} [Fintype ι] (N : ℕ) (s : ℕ → ι → ℝ) (v : ℕ → ι → EReal) (M : ℕ → ℝ) (A : ℕ → EReal)
    (h0 : A 0 = ∑ j, (two (s 0 j - M 0) : EReal) * v 0 j)
    (hs : ∀ n, n + 1 < N → A (n + 1) = (two (M n - M (n + 1)) : EReal) * A n + ∑ j, (two (s (n + 1) j - M (n + 1)) : EReal) * v (n + 1) j) :
    ∀ n, n < N → A n = ∑ i : Fin (n + 1), ∑ j, (two (s i j - M n) : EReal) * v i j := by
  intro n
  induction n with
  | zero => intro _; rw [h0]; simp
  | succ n ih =>
    intro hn
    rw [hs n hn, ih (by omega), mul_sum_coe _ (two_pos _).le, Fin.sum_univ_castSucc (n := n + 1)]
    refine congrArg₂ (· + ·) (Finset.sum_congr rfl fun i _ => ?_) rfl
    rw [mul_sum_coe _ (two_pos _).le]
    refine Finset.sum_congr rfl fun j _ => ?_
    rw [← mul_assoc, ← EReal.coe_mul, ← two_add]
    simp

/-- The quotient of two accumulators is the sum weighted by the softmax, whatever the shifts `M` and `m`. -/
theorem quotient {κ : Type*} [Fintype κ] [Nonempty κ] (s σ : κ → ℝ) (v : κ → EReal) (M m : ℝ)
    (h : ∀ k, σ k = Real.log 2 * s k) :
    Ideal.div (∑ k, (two (s k - M) : EReal) * v k) (∑ k, (two (s k - M) : EReal) * 1)
      = ∑ k, v k * Ideal.div (Ideal.exp ((σ k : EReal) - (m : EReal))) (∑ k', Ideal.exp ((σ k' : EReal) - (m : EReal))) := by
  have hT : 0 < ∑ k, two (s k - M) := Finset.sum_pos (fun k _ => two_pos _) Finset.univ_nonempty
  have hE : 0 < ∑ k, Real.exp (σ k - m) := Finset.sum_pos (fun k _ => Real.exp_pos _) Finset.univ_nonempty
  have h1 : (∑ k, (two (s k - M) : EReal) * 1) = ((∑ k, two (s k - M) : ℝ) : EReal) := by
    rw [coe_sum]; exact Finset.sum_congr rfl fun k _ => mul_one _
  have h2 : (∑ k', Ideal.exp ((σ k' : EReal) - (m : EReal))) = ((∑ k, Real.exp (σ k - m) : ℝ) : EReal) := by
    rw [coe_sum]; exact Finset.sum_congr rfl fun k _ => by rw [← EReal.coe_sub]; rfl
  rw [h1, h2, Ideal.div_coe hT.ne', mul_comm, mul_sum_coe _ (one_div_nonneg.mpr hT.le)]
  refine Finset.sum_congr rfl fun k _ => ?_
  rw [Ideal.div_coe hE.ne', ← EReal.coe_sub, Ideal.exp_coe, ← EReal.coe_mul, ← mul_assoc, ← EReal.coe_mul, mul_comm (v k)]
  refine congrArg (fun r : ℝ => (r : EReal) * v k) ?_
  have hk : ∀ k, two (s k - M) = Real.exp (m - Real.log 2 * M) * Real.exp (σ k - m) := fun k => by
    rw [two_eq, ← Real.exp_add, h]; congr 1; ring
  have hsum : ∑ k, two (s k - M) = Real.exp (m - Real.log 2 * M) * ∑ k, Real.exp (σ k - m) := by
    rw [Finset.mul_sum]; exact Finset.sum_congr rfl fun k _ => hk k
  rw [hsum, hk]
  have := Real.exp_pos (m - Real.log 2 * M)
  field_simp
end Cert.Attn
end
-- ==== Proof.AttnEntry.lean ====
/- One element of the block a grid point writes: the quotient of two sums over all 8448 keys. -/
module

public import proofs.«01_k».proof.Proof.AttnBlock
public import proofs.«01_k».proof.Proof.AttnMath
public import Idealize.ShloMosaic.Lib.ValueIdx
public import Idealize.ShloMosaic.Lib.ValueIdxCoords
public import Idealize.ShloMosaic.Lib.ValueLayout
public import Idealize.ShloMosaic.Lib.ValueLayoutCasts

@[expose] public section
noncomputable section
namespace Cert.KernelIdeal.Hand
open Idealize.ShloMosaic hiding ix1 ix2 ix3 ix4 eq_ix1 eq_ix2 eq_ix3 eq_ix4
open Cert.KernelIdeal Cert.KernelIdeal.Gen Idealize.ShloMosaic.ValueIdx Cert.Attn
open Facts

variable (q : Vec Ideal S1x1024x256 .bf16) (k v : Vec Ideal S1x8448x256 .bf16)

theorem key_lt {n : ℕ} (h : n < 11) (j : Fin 768) : n * 768 + j.val < 8448 := by have := j.isLt; omega

theorem rowsAt_apply (x : Vec Ideal S1x8448x256 .bf16) (n : ℕ) (h : n < 11) (j : Fin 768) (d : Fin 256) :
    rowsAt x n h (ix2 j d) = x (ix3 (0 : Fin 1) (⟨n * 768 + j.val, key_lt h j⟩ : Fin 8448) d) := by
  unfold rowsAt
  rw [shapeCast_1ab_ab_apply]
  show x _ = x _
  refine congrArg x (funext fun a => Fin.ext ?_)
  match a with
  | ⟨0, _⟩ => rfl
  | ⟨1, _⟩ => show 768 * n + 1 * j.val = n * 768 + j.val; omega
  | ⟨2, _⟩ => show 0 + 1 * d.val = d.val; omega

theorem scoreAt_apply (n : ℕ) (h : n < 11) (r : Fin 1024) (j : Fin 768) :
    scoreAt q k n h (ix2 r j)
      = ∑ d : Fin 256, q (ix3 (0 : Fin 1) r d) * k (ix3 (0 : Fin 1) (⟨n * 768 + j.val, key_lt h j⟩ : Fin 8448) d) := by
  unfold scoreAt
  refine (Ideal.matmul_constant_zero_apply _ none _ _ _).trans ?_
  rw [← Equiv.sum_comp (contrEquiv1 dot_S1024x256_S768x256_S1024x768_1_1_0_0_n_n 256 rfl rfl).symm]
  refine Finset.sum_congr rfl fun d _ => ?_
  refine congrArg₂ (· * ·) ?_ ?_
  · rw [show (dot_S1024x256_S768x256_S1024x768_1_1_0_0_n_n.lhsIdx (ix2 r j) ((contrEquiv1 dot_S1024x256_S768x256_S1024x768_1_1_0_0_n_n 256 rfl rfl).symm d)) = ix2 r d from
      (eq_ix2 _).trans rfl]
    exact shapeCast_1ab_ab_apply _ _ _ _
  · rw [show (dot_S1024x256_S768x256_S1024x768_1_1_0_0_n_n.rhsIdx (ix2 r j) ((contrEquiv1 dot_S1024x256_S768x256_S1024x768_1_1_0_0_n_n 256 rfl rfl).symm d)) = ix2 j d from
      (eq_ix2 _).trans rfl]
    exact rowsAt_apply k n h j d

theorem neg_inf_bits : Ideal.ofBits .f32 0xFF800000#32 = (⊥ : EReal) := by
  simp [Ideal.ofBits, Ideal.ieee]

/-- Where the scores are real, so is a block's row maximum. -/
theorem topAt_real (n : ℕ) (h : n < 11) (r : Fin 1024) (hs : ∀ j, IsReal (scoreAt q k n h (ix2 r j))) :
    IsReal (topAt q k n h (ix2 r (0 : Fin 1))) := by
  unfold topAt
  rw [shapeCast_a_a1_apply]
  refine (congrArg IsReal (Ideal.multiReduction_maximumf_single _ _ _ _ _ _)).mpr ?_
  rw [show (FloatOps.ofBits (F := Ideal) FTy.f32 0xFF800000#32) = (⊥ : EReal) from neg_inf_bits]
  refine isReal_fold_max _ ⟨(⟨0, by decide⟩ : Fin 768), Finset.mem_univ _⟩ _ fun (j : Fin 768) => ?_
  have := hs j
  refine (congrArg (fun i => IsReal (scoreAt q k n h i)) ?_).mp this
  exact ((eq_ix2 _).trans rfl).symm

theorem maxAt_real (r : Fin 1024) (hs : ∀ n h j, IsReal (scoreAt q k n h (ix2 r j))) (n : ℕ) (h : n < 11) :
    IsReal (maxAt q k n h (ix2 r (0 : Fin 1))) := by
  induction n with
  | zero => exact topAt_real q k 0 h r (hs 0 h)
  | succ n ih =>
    unfold maxAt
    rw [shapeCast_self]
    exact (ih (by omega)).max (topAt_real q k (n + 1) h r (hs (n + 1) h))

theorem partAt_apply (n : ℕ) (h : n < 11) (r : Fin 1024) (e : Fin 256) :
    partAt q k v n h (ix2 r e) = ∑ j : Fin 768, Ideal.exp2 (scoreAt q k n h (ix2 r j) - maxAt q k n h (ix2 r (0 : Fin 1)))
      * v (ix3 (0 : Fin 1) (⟨n * 768 + j.val, key_lt h j⟩ : Fin 8448) e) := by
  unfold partAt
  refine (Ideal.matmul_constant_zero_apply _ none _ _ _).trans ?_
  rw [← Equiv.sum_comp (contrEquiv1 dot_S1024x768_S768x256_S1024x256_1_0_0_1_n_n 768 rfl rfl).symm]
  refine Finset.sum_congr rfl fun j _ => ?_
  refine congrArg₂ (· * ·) ?_ ?_
  · rw [show (dot_S1024x768_S768x256_S1024x256_1_0_0_1_n_n.lhsIdx (ix2 r e) ((contrEquiv1 dot_S1024x768_S768x256_S1024x256_1_0_0_1_n_n 768 rfl rfl).symm j)) = ix2 r j from
      (eq_ix2 _).trans rfl]
    show Ideal.exp2 (scoreAt q k n h (ix2 r j) - broadcastTo S1024x768 (maxAt q k n h) broadcasts_S1024x1_S1024x768 (ix2 r j)) = _
    rw [broadcastTo_apply (maxAt q k n h) broadcasts_S1024x1_S1024x768 (ix2 r j) (ix2 r (0 : Fin 1))
      (fun a => match a with | ⟨0, _⟩ => rfl | ⟨1, _⟩ => rfl)]
  · rw [show (dot_S1024x768_S768x256_S1024x256_1_0_0_1_n_n.rhsIdx (ix2 r e) ((contrEquiv1 dot_S1024x768_S768x256_S1024x256_1_0_0_1_n_n 768 rfl rfl).symm j)) = ix2 j e from
      (eq_ix2 _).trans rfl]
    exact rowsAt_apply v n h j e

theorem accAt_zero (h : 0 < 11) (r : Fin 1024) (e : Fin 256) : accAt q k v 0 h (ix2 r e) = partAt q k v 0 h (ix2 r e) := by
  unfold accAt; rw [shapeCast_self]

theorem accAt_succ (n : ℕ) (h : n + 1 < 11) (r : Fin 1024) (e : Fin 256) : accAt q k v (n + 1) h (ix2 r e)
    = Ideal.exp2 (maxAt q k n (by omega) (ix2 r (0 : Fin 1)) - maxAt q k (n + 1) h (ix2 r (0 : Fin 1))) * accAt q k v n (by omega) (ix2 r e)
      + partAt q k v (n + 1) h (ix2 r e) := by
  conv_lhs => unfold accAt
  rw [shapeCast_self]
  show broadcastTo S1024x256 _ broadcasts_S1024x1_S1024x256 (ix2 r e) * _ + _ = _
  rw [broadcastTo_apply _ broadcasts_S1024x1_S1024x256 (ix2 r e) (ix2 r (0 : Fin 1))
      (fun a => match a with | ⟨0, _⟩ => rfl | ⟨1, _⟩ => rfl)]
  unfold maxSt
  rw [shapeCast_self]
  rfl

/-- The accumulator after the last block, at one element: a sum over all the keys. -/
theorem acc_all (r : Fin 1024) (S : Fin 8448 → ℝ)
    (hS : ∀ t : Fin 8448, ∑ d : Fin 256, q (ix3 (0 : Fin 1) r d) * k (ix3 (0 : Fin 1) t d) = (S t : EReal)) :
    ∃ M : ℝ, ∀ e : Fin 256, accAt q k v 10 (by omega) (ix2 r e) = ∑ t : Fin 8448, (two (S t - M) : EReal) * v (ix3 (0 : Fin 1) t e) := by
  have hs : ∀ n h j, scoreAt q k n h (ix2 r j) = (S ⟨n * 768 + j.val, key_lt h j⟩ : EReal) := fun n h j => by
    rw [scoreAt_apply, hS]
  have hm := maxAt_real q k r (fun n h j => ⟨_, hs n h j⟩)
  choose M hM using hm
  refine ⟨M 10 (by omega), fun e => ?_⟩
  have hp : ∀ n h, partAt q k v n h (ix2 r e) = ∑ j : Fin 768, (two (S ⟨n * 768 + j.val, key_lt h j⟩ - M n h) : EReal)
      * v (ix3 (0 : Fin 1) (⟨n * 768 + j.val, key_lt h j⟩ : Fin 8448) e) := fun n h => by
    rw [partAt_apply]
    refine Finset.sum_congr rfl fun j _ => ?_
    rw [hs, hM, ← EReal.coe_sub]; rfl
  have key := online (ι := Fin 768) 11 (fun n j => if h : n < 11 then S ⟨n * 768 + j.val, key_lt h j⟩ else 0)
    (fun n j => if h : n < 11 then v (ix3 (0 : Fin 1) (⟨n * 768 + j.val, key_lt h j⟩ : Fin 8448) e) else 0)
    (fun n => if h : n < 11 then M n h else 0) (fun n => if h : n < 11 then accAt q k v n h (ix2 r e) else 0)
    (by simp only [Nat.zero_lt_succ, dite_true]; rw [accAt_zero, hp])
    (fun n hn => by
      have h' : n < 11 := by omega
      simp only [hn, h', dite_true]
      rw [accAt_succ, hp, hM, hM, ← EReal.coe_sub]; rfl) 10 (by omega)
  simp only [show 10 < 11 from by omega, dite_true] at key
  rw [key, ← Fin.sum_mul_add_fin 11 768 (fun t : Fin 8448 => (two (S t - M 10 (by omega)) : EReal) * v (ix3 (0 : Fin 1) t e))]
  refine Finset.sum_congr rfl fun i _ => Finset.sum_congr rfl fun j _ => ?_
  have hi : i.val < 11 := i.isLt
  simp only [hi, dite_true]

theorem quot_apply (x : Vec Ideal S1024x256 .f32) (r : Fin 1024) (e : Fin 128) : k0_pay3 x (ix3 (0 : Fin 1) r e)
    = Ideal.div (x (ix2 r (⟨e.val, by omega⟩ : Fin 256))) (x (ix2 r (⟨128 + e.val, by omega⟩ : Fin 256))) := by
  unfold k0_pay3
  refine (shapeCast_ab_1ab_apply _ _ _ _ _).trans ?_
  exact congrArg₂ Ideal.div
    (slice2_axis1_apply 0 x slices_S1024x256_o0_0_S1024x128 r e (⟨e.val, by omega⟩ : Fin 256) (Nat.zero_add _).symm)
    (slice2_axis1_apply 128 x slices_S1024x256_o0_128_S1024x128 r e (⟨128 + e.val, by omega⟩ : Fin 256) rfl)

theorem outAt_apply (r : Fin 1024) (e : Fin 128) : outAt q k v (ix3 (0 : Fin 1) r e)
    = Ideal.div (accAt q k v 10 (by omega) (ix2 r (⟨e.val, by omega⟩ : Fin 256))) (accAt q k v 10 (by omega) (ix2 r (⟨128 + e.val, by omega⟩ : Fin 256))) :=
  quot_apply _ r e

end Cert.KernelIdeal.Hand
end
-- ==== Proof.Cat.lean ====
/- Concatenations along one axis, read at an index given by its coordinates. -/
module

public import Idealize.ShloMosaic.Lib.Pipeline.Value
public import Idealize.ShloMosaic.Lib.ValueIdx
public import Idealize.ShloMosaic.Lib.ValueIdxCoords
public import Idealize.ShloMosaic.Lib.Pointwise.Index

@[expose] public section
noncomputable section
namespace Cert.Attn
open Idealize.ShloMosaic hiding ix0 ix1 ix2 ix3 ix4 eq_ix1 eq_ix2 eq_ix3 eq_ix4
open Idealize.ShloMosaic.ValueIdx

variable {α : Type} {n0 n1 n2 n3 a b c N : ℕ}

section Lanes3
variable (x : (⟨4, ![n0, n1, n2, a]⟩ : Shape).Idx → α) (y : (⟨4, ![n0, n1, n2, b]⟩ : Shape).Idx → α) (z : (⟨4, ![n0, n1, n2, c]⟩ : Shape).Idx → α)
  (h : Shape.Concatenates [(⟨4, ![n0, n1, n2, a]⟩ : Shape), ⟨4, ![n0, n1, n2, b]⟩, ⟨4, ![n0, n1, n2, c]⟩] ⟨4, ![n0, n1, n2, N]⟩ 3)
  (i0 : Fin n0) (i1 : Fin n1) (i2 : Fin n2) (k : Fin N)

theorem lanes3_first (d : Fin a) (hk : k.val = d.val) :
    concatenate (⟨4, ![n0, n1, n2, N]⟩ : Shape) 3 [⟨_, x⟩, ⟨_, y⟩, ⟨_, z⟩] h (ix4 i0 i1 i2 k) = x (ix4 i0 i1 i2 d) :=
  concatenate_apply_piece 3 [⟨_, x⟩, ⟨_, y⟩, ⟨_, z⟩] h _ 0 (by simp) _ x rfl rfl 0 rfl _
    (fun e => match e with | ⟨0, _⟩ => fun _ => rfl | ⟨1, _⟩ => fun _ => rfl | ⟨2, _⟩ => fun _ => rfl | ⟨3, _⟩ => fun hne => absurd rfl hne)
    ((Nat.zero_add _).trans hk.symm)

theorem lanes3_second (d : Fin b) (hk : k.val = a + d.val) :
    concatenate (⟨4, ![n0, n1, n2, N]⟩ : Shape) 3 [⟨_, x⟩, ⟨_, y⟩, ⟨_, z⟩] h (ix4 i0 i1 i2 k) = y (ix4 i0 i1 i2 d) :=
  concatenate_apply_piece 3 [⟨_, x⟩, ⟨_, y⟩, ⟨_, z⟩] h _ 1 (by simp) _ y rfl rfl a (by simp) _
    (fun e => match e with | ⟨0, _⟩ => fun _ => rfl | ⟨1, _⟩ => fun _ => rfl | ⟨2, _⟩ => fun _ => rfl | ⟨3, _⟩ => fun hne => absurd rfl hne)
    hk.symm

theorem lanes3_third (d : Fin c) (hk : k.val = a + b + d.val) :
    concatenate (⟨4, ![n0, n1, n2, N]⟩ : Shape) 3 [⟨_, x⟩, ⟨_, y⟩, ⟨_, z⟩] h (ix4 i0 i1 i2 k) = z (ix4 i0 i1 i2 d) :=
  concatenate_apply_piece 3 [⟨_, x⟩, ⟨_, y⟩, ⟨_, z⟩] h _ 2 (by simp) _ z rfl rfl (a + b) (by simp) _
    (fun e => match e with | ⟨0, _⟩ => fun _ => rfl | ⟨1, _⟩ => fun _ => rfl | ⟨2, _⟩ => fun _ => rfl | ⟨3, _⟩ => fun hne => absurd rfl hne)
    hk.symm
end Lanes3

section Lanes2
variable (x : (⟨4, ![n0, n1, n2, a]⟩ : Shape).Idx → α) (y : (⟨4, ![n0, n1, n2, b]⟩ : Shape).Idx → α)
  (h : Shape.Concatenates [(⟨4, ![n0, n1, n2, a]⟩ : Shape), ⟨4, ![n0, n1, n2, b]⟩] ⟨4, ![n0, n1, n2, N]⟩ 3)
  (i0 : Fin n0) (i1 : Fin n1) (i2 : Fin n2) (k : Fin N)

theorem lanes2_first (d : Fin a) (hk : k.val = d.val) :
    concatenate (⟨4, ![n0, n1, n2, N]⟩ : Shape) 3 [⟨_, x⟩, ⟨_, y⟩] h (ix4 i0 i1 i2 k) = x (ix4 i0 i1 i2 d) :=
  concatenate_pair_apply_left 3 x y h _ rfl _
    (fun e => match e with | ⟨0, _⟩ => rfl | ⟨1, _⟩ => rfl | ⟨2, _⟩ => rfl | ⟨3, _⟩ => hk.symm)

theorem lanes2_second (d : Fin b) (hk : k.val = a + d.val) :
    concatenate (⟨4, ![n0, n1, n2, N]⟩ : Shape) 3 [⟨_, x⟩, ⟨_, y⟩] h (ix4 i0 i1 i2 k) = y (ix4 i0 i1 i2 d) :=
  concatenate_pair_apply_right 3 x y h _ rfl rfl _
    (fun e => match e with | ⟨0, _⟩ => fun _ => rfl | ⟨1, _⟩ => fun _ => rfl | ⟨2, _⟩ => fun _ => rfl | ⟨3, _⟩ => fun hne => absurd rfl hne)
    ((Nat.add_comm _ _).trans hk.symm)
end Lanes2

section Rows4
variable (x : (⟨4, ![n0, a, n2, n3]⟩ : Shape).Idx → α) (y : (⟨4, ![n0, b, n2, n3]⟩ : Shape).Idx → α)
  (h : Shape.Concatenates [(⟨4, ![n0, a, n2, n3]⟩ : Shape), ⟨4, ![n0, b, n2, n3]⟩] ⟨4, ![n0, N, n2, n3]⟩ 1)
  (i0 : Fin n0) (i2 : Fin n2) (i3 : Fin n3) (k : Fin N)

theorem rows4_first (d : Fin a) (hk : k.val = d.val) :
    concatenate (⟨4, ![n0, N, n2, n3]⟩ : Shape) 1 [⟨_, x⟩, ⟨_, y⟩] h (ix4 i0 k i2 i3) = x (ix4 i0 d i2 i3) :=
  concatenate_pair_apply_left 1 x y h _ rfl _
    (fun e => match e with | ⟨0, _⟩ => rfl | ⟨1, _⟩ => hk.symm | ⟨2, _⟩ => rfl | ⟨3, _⟩ => rfl)

theorem rows4_second (d : Fin b) (hk : k.val = a + d.val) :
    concatenate (⟨4, ![n0, N, n2, n3]⟩ : Shape) 1 [⟨_, x⟩, ⟨_, y⟩] h (ix4 i0 k i2 i3) = y (ix4 i0 d i2 i3) :=
  concatenate_pair_apply_right 1 x y h _ rfl rfl _
    (fun e => match e with | ⟨0, _⟩ => fun _ => rfl | ⟨1, _⟩ => fun hne => absurd rfl hne | ⟨2, _⟩ => fun _ => rfl | ⟨3, _⟩ => fun _ => rfl)
    ((Nat.add_comm _ _).trans hk.symm)
end Rows4

section Rows3
variable (x : (⟨3, ![n0, a, n2]⟩ : Shape).Idx → α) (y : (⟨3, ![n0, b, n2]⟩ : Shape).Idx → α)
  (h : Shape.Concatenates [(⟨3, ![n0, a, n2]⟩ : Shape), ⟨3, ![n0, b, n2]⟩] ⟨3, ![n0, N, n2]⟩ 1)
  (i0 : Fin n0) (i2 : Fin n2) (k : Fin N)

theorem rows3_first (d : Fin a) (hk : k.val = d.val) :
    concatenate (⟨3, ![n0, N, n2]⟩ : Shape) 1 [⟨_, x⟩, ⟨_, y⟩] h (ix3 i0 k i2) = x (ix3 i0 d i2) :=
  concatenate_pair_apply_left 1 x y h _ rfl _
    (fun e => match e with | ⟨0, _⟩ => rfl | ⟨1, _⟩ => hk.symm | ⟨2, _⟩ => rfl)

theorem rows3_second (d : Fin b) (hk : k.val = a + d.val) :
    concatenate (⟨3, ![n0, N, n2]⟩ : Shape) 1 [⟨_, x⟩, ⟨_, y⟩] h (ix3 i0 k i2) = y (ix3 i0 d i2) :=
  concatenate_pair_apply_right 1 x y h _ rfl rfl _
    (fun e => match e with | ⟨0, _⟩ => fun _ => rfl | ⟨1, _⟩ => fun hne => absurd rfl hne | ⟨2, _⟩ => fun _ => rfl)
    ((Nat.add_comm _ _).trans hk.symm)
end Rows3

/-- The latent rows and the context rows, as one function of the key. -/
def rows4 (x : FVec Ideal ⟨4, ![2, 8192, 8, 128]⟩ .f32) (y : FVec Ideal ⟨4, ![2, 256, 8, 128]⟩ .f32) (b : Fin 2) (h : Fin 8) (d : Fin 128) :
    Fin 8192 ⊕ Fin 256 → EReal :=
  Sum.elim (fun l => x (ix4 b l h d)) (fun c => y (ix4 b c h d))
def rows3 (x : FVec Ideal ⟨3, ![2, 8192, 64]⟩ .f32) (y : FVec Ideal ⟨3, ![2, 256, 64]⟩ .f32) (b : Fin 2) (e : Fin 64) : Fin 8192 ⊕ Fin 256 → EReal :=
  Sum.elim (fun l => x (ix3 b l e)) (fun c => y (ix3 b c e))

end Cert.Attn
end
-- ==== Proof.AttnHost.lean ====
/- The three arrays the host hands to the attention call, read at an index: the queries (scaled, with 64 lanes of
   zeros behind each head), the keys (the rotary part repeated under each head), the values (with 128 lanes of
   ones behind each head). -/
module

public import proofs.«01_k».proof.Proof.Gen.KernelIdeal.Frame
public import proofs.«01_k».proof.Proof.AttnMath
public import proofs.«01_k».proof.Proof.Cat

@[expose] public section
noncomputable section
namespace Cert.KernelIdeal.Hand
open Idealize.ShloMosaic hiding ix0 ix1 ix2 ix3 ix4 eq_ix1 eq_ix2 eq_ix3 eq_ix4
open Cert.KernelIdeal Cert.KernelIdeal.Gen Idealize.ShloMosaic.ValueIdx Cert.Attn Idealize.ShloMosaic.TcCoe Idealize.SL.Sem
open Facts

/-- The scale of the scores, in units of log 2. -/
def scale : FVec Ideal S_ .f32 := Host.divf (Host.rsqrt (constant S_ .f32 0x43400000#32)) (Host.log (constant S_ .f32 0x40000000#32))

def qCat (x0 : FVec Ideal S2x8192x8x128 .f32) (x1 : FVec Ideal S2x8192x8x64 .f32) : FVec Ideal S2x8192x8x256 .f32 :=
  concatenate S2x8192x8x256 3 [⟨S2x8192x8x128, x0⟩, ⟨S2x8192x8x64, x1⟩,
    ⟨S2x8192x8x64, broadcastInDim S2x8192x8x64 ![] bcast_S_S2x8192x8x64 (constant S_ .f32 0x00000000#32 : FVec Ideal S_ .f32)⟩]
    concatenates_S2x8192x8x128_S2x8192x8x64_S2x8192x8x64_S2x8192x8x256_d3

/-- The queries. -/
def qArr (x0 : FVec Ideal S2x8192x8x128 .f32) (x1 : FVec Ideal S2x8192x8x64 .f32) : FVec Ideal S2x8192x2048 .bf16 :=
  truncf .bf16 (shapeCast S2x8192x2048 (mulf (qCat x0 x1) (broadcastInDim S2x8192x8x256 ![] bcast_S_S2x8192x8x256 scale))
    shapeCasts_S2x8192x8x256_S2x8192x2048 : FVec Ideal S2x8192x2048 .f32) bitsLt_bf16_f32

def kNope (x2 : FVec Ideal S2x8192x8x128 .f32) (x5 : FVec Ideal S2x256x8x128 .f32) : FVec Ideal S2x8448x8x128 .f32 :=
  concatenate S2x8448x8x128 1 [⟨S2x8192x8x128, x2⟩, ⟨S2x256x8x128, x5⟩] concatenates_S2x8192x8x128_S2x256x8x128_S2x8448x8x128_d1

def kRope (x3 : FVec Ideal S2x8192x64 .f32) (x6 : FVec Ideal S2x256x64 .f32) : FVec Ideal S2x8448x64 .f32 :=
  concatenate S2x8448x64 1 [⟨S2x8192x64, x3⟩, ⟨S2x256x64, x6⟩] concatenates_S2x8192x64_S2x256x64_S2x8448x64_d1

def kRope8 (x3 : FVec Ideal S2x8192x64 .f32) (x6 : FVec Ideal S2x256x64 .f32) : FVec Ideal S2x8448x8x64 .f32 :=
  broadcastInDim S2x8448x8x64 ![0, 1, 2, 3] bcast_S2x8448x1x64_S2x8448x8x64_0_1_2_3
    (broadcastInDim S2x8448x1x64 ![0, 1, 3] bcast_S2x8448x64_S2x8448x1x64_0_1_3 (kRope x3 x6))

def kCat (x2 : FVec Ideal S2x8192x8x128 .f32) (x3 : FVec Ideal S2x8192x64 .f32) (x5 : FVec Ideal S2x256x8x128 .f32) (x6 : FVec Ideal S2x256x64 .f32) :
    FVec Ideal S2x8448x8x256 .f32 :=
  concatenate S2x8448x8x256 3 [⟨S2x8448x8x128, kNope x2 x5⟩, ⟨S2x8448x8x64, kRope8 x3 x6⟩, ⟨S2x8448x8x64, kRope8 x3 x6⟩]
    concatenates_S2x8448x8x128_S2x8448x8x64_S2x8448x8x64_S2x8448x8x256_d3

/-- The keys. -/
def kArr (x2 : FVec Ideal S2x8192x8x128 .f32) (x3 : FVec Ideal S2x8192x64 .f32) (x5 : FVec Ideal S2x256x8x128 .f32) (x6 : FVec Ideal S2x256x64 .f32) :
    FVec Ideal S2x8448x2048 .bf16 :=
  truncf .bf16 (shapeCast S2x8448x2048 (kCat x2 x3 x5 x6) shapeCasts_S2x8448x8x256_S2x8448x2048 : FVec Ideal S2x8448x2048 .f32) bitsLt_bf16_f32

def vCat (x4 : FVec Ideal S2x8192x8x128 .f32) (x7 : FVec Ideal S2x256x8x128 .f32) : FVec Ideal S2x8448x8x256 .f32 :=
  concatenate S2x8448x8x256 3 [⟨S2x8448x8x128, kNope x4 x7⟩,
    ⟨S2x8448x8x128, broadcastInDim S2x8448x8x128 ![] bcast_S_S2x8448x8x128 (constant S_ .f32 0x3F800000#32 : FVec Ideal S_ .f32)⟩]
    concatenates_S2x8448x8x128_S2x8448x8x128_S2x8448x8x256_d3

/-- The values. -/
def vArr (x4 : FVec Ideal S2x8192x8x128 .f32) (x7 : FVec Ideal S2x256x8x128 .f32) : FVec Ideal S2x8448x2048 .bf16 :=
  truncf .bf16 (shapeCast S2x8448x2048 (vCat x4 x7) shapeCasts_S2x8448x8x256_S2x8448x2048 : FVec Ideal S2x8448x2048 .f32) bitsLt_bf16_f32

/-- The lane of a head's lane `d` of 256. -/
def lane (h : Fin 8) (d : Fin 256) : Fin 2048 := ⟨256 * h.val + d.val, by have := h.isLt; have := d.isLt; omega⟩

theorem flat_q {α : Type} (x : S2x8192x8x256.Idx → α) (b : Fin 2) (l : Fin 8192) (h : Fin 8) (d : Fin 256) :
    shapeCast S2x8192x2048 x shapeCasts_S2x8192x8x256_S2x8192x2048 (ix3 b l (lane h d)) = x (ix4 b l h d) :=
  shapeCast_apply x _ _ _ (by
    rewrite [Shape.rowMajor_val_four, Shape.rowMajor_val_three]
    show ((b.val * 8192 + l.val) * 8 + h.val) * 256 + d.val = (b.val * 8192 + l.val) * 2048 + (256 * h.val + d.val)
    omega)

theorem flat_k {α : Type} (x : S2x8448x8x256.Idx → α) (b : Fin 2) (l : Fin 8448) (h : Fin 8) (d : Fin 256) :
    shapeCast S2x8448x2048 x shapeCasts_S2x8448x8x256_S2x8448x2048 (ix3 b l (lane h d)) = x (ix4 b l h d) :=
  shapeCast_apply x _ _ _ (by
    rewrite [Shape.rowMajor_val_four, Shape.rowMajor_val_three]
    show ((b.val * 8448 + l.val) * 8 + h.val) * 256 + d.val = (b.val * 8448 + l.val) * 2048 + (256 * h.val + d.val)
    omega)

theorem cut_q (x : FVec Ideal S2x8192x8x256 .f32) (b : Fin 2) (l : Fin 8192) (h : Fin 8) (d : Fin 256) :
    (truncf .bf16 (shapeCast S2x8192x2048 x shapeCasts_S2x8192x8x256_S2x8192x2048 : FVec Ideal S2x8192x2048 .f32) bitsLt_bf16_f32 :
      FVec Ideal S2x8192x2048 .bf16) (ix3 b l (lane h d)) = x (ix4 b l h d) := by
  refine Eq.trans ?_ (flat_q x b l h d)
  generalize shapeCast S2x8192x2048 x shapeCasts_S2x8192x8x256_S2x8192x2048 = y
  rfl

theorem cut_k (x : FVec Ideal S2x8448x8x256 .f32) (b : Fin 2) (l : Fin 8448) (h : Fin 8) (d : Fin 256) :
    (truncf .bf16 (shapeCast S2x8448x2048 x shapeCasts_S2x8448x8x256_S2x8448x2048 : FVec Ideal S2x8448x2048 .f32) bitsLt_bf16_f32 :
      FVec Ideal S2x8448x2048 .bf16) (ix3 b l (lane h d)) = x (ix4 b l h d) := by
  refine Eq.trans ?_ (flat_k x b l h d)
  generalize shapeCast S2x8448x2048 x shapeCasts_S2x8448x8x256_S2x8448x2048 = y
  rfl

/-- The three parts of a head's 256 lanes. -/
def laneN (d : Fin 128) : Fin 256 := ⟨d.val, by omega⟩
def laneR (e : Fin 64) : Fin 256 := ⟨128 + e.val, by omega⟩
def laneP (e : Fin 64) : Fin 256 := ⟨192 + e.val, by omega⟩
def laneO (d : Fin 128) : Fin 256 := ⟨128 + d.val, by omega⟩

theorem sum_lanes (f : Fin 256 → EReal) : ∑ d, f d = ∑ d, f (laneN d) + (∑ e, f (laneR e) + ∑ e, f (laneP e)) := by
  have h1 := Fin.sum_univ_add (a := 128) (b := 128) f
  have h2 := Fin.sum_univ_add (a := 64) (b := 64) (fun i => f (Fin.natAdd 128 i))
  refine h1.trans (congrArg₂ (· + ·) rfl (h2.trans (congrArg₂ (· + ·) rfl ?_)))
  refine Finset.sum_congr rfl fun e _ => congrArg f (Fin.ext ?_)
  show 128 + (64 + e.val) = 192 + e.val
  omega

section Queries
variable (x0 : FVec Ideal S2x8192x8x128 .f32) (x1 : FVec Ideal S2x8192x8x64 .f32) (b : Fin 2) (l : Fin 8192) (h : Fin 8)

theorem qArr_apply (d : Fin 256) : qArr x0 x1 (ix3 b l (lane h d)) = qCat x0 x1 (ix4 b l h d) * scale ix0 := by
  unfold qArr
  refine (cut_q _ b l h d).trans ?_
  show qCat x0 x1 (ix4 b l h d) * broadcastInDim S2x8192x8x256 ![] bcast_S_S2x8192x8x256 scale (ix4 b l h d) = _
  rw [broadcastInDim_apply _ bcast_S_S2x8192x8x256 scale (ix4 b l h d) ix0 (fun a => a.elim0)]

theorem q_nope (d : Fin 128) : qCat x0 x1 (ix4 b l h (laneN d)) = x0 (ix4 b l h d) := lanes3_first _ _ _ _ b l h _ d rfl

theorem q_rope (e : Fin 64) : qCat x0 x1 (ix4 b l h (laneR e)) = x1 (ix4 b l h e) := lanes3_second _ _ _ _ b l h _ e rfl

theorem q_pad (e : Fin 64) : qCat x0 x1 (ix4 b l h (laneP e)) = 0 := by
  refine (lanes3_third _ _ _ _ b l h _ e rfl).trans ?_
  rw [broadcastInDim_apply _ bcast_S_S2x8192x8x64 _ (ix4 b l h e) ix0 (fun a => a.elim0)]
  exact Ideal.ofBits_zero_f32
end Queries

/-- The keys, as the kernel orders them: the 8192 latent rows, then the 256 context rows. -/
def posK : Fin 8192 ⊕ Fin 256 → Fin 8448 := Sum.elim (fun l => ⟨l.val, by omega⟩) (fun c => ⟨8192 + c.val, by omega⟩)

theorem sum_posK (f : Fin 8448 → EReal) : ∑ t, f t = ∑ κ, f (posK κ) := by
  rw [Fintype.sum_sum_type]
  exact Fin.sum_univ_add (a := 8192) (b := 256) f

section Keys
variable (x2 : FVec Ideal S2x8192x8x128 .f32) (x3 : FVec Ideal S2x8192x64 .f32) (x5 : FVec Ideal S2x256x8x128 .f32) (x6 : FVec Ideal S2x256x64 .f32)
  (b : Fin 2) (κ : Fin 8192 ⊕ Fin 256) (h : Fin 8)

theorem kNope_apply (d : Fin 128) : kNope x2 x5 (ix4 b (posK κ) h d) = rows4 x2 x5 b h d κ := by
  cases κ with
  | inl l => exact rows4_first x2 x5 _ b h d _ l rfl
  | inr c => exact rows4_second x2 x5 _ b h d _ c rfl

theorem kRope_apply (e : Fin 64) : kRope x3 x6 (ix3 b (posK κ) e) = rows3 x3 x6 b e κ := by
  cases κ with
  | inl l => exact rows3_first x3 x6 _ b e _ l rfl
  | inr c => exact rows3_second x3 x6 _ b e _ c rfl

theorem kRope8_apply (t : Fin 8448) (e : Fin 64) : kRope8 x3 x6 (ix4 b t h e) = kRope x3 x6 (ix3 b t e) := by
  unfold kRope8
  generalize kRope x3 x6 = y
  rw [broadcastInDim_apply _ bcast_S2x8448x1x64_S2x8448x8x64_0_1_2_3 _ (ix4 b t h e) (ix4 b t (0 : Fin 1) e)
      (fun a => match a with
        | ⟨0, _⟩ => by show b.val = if (2 : Nat) = 1 then 0 else b.val; rw [if_neg (by decide)]
        | ⟨1, _⟩ => by show t.val = if (8448 : Nat) = 1 then 0 else t.val; rw [if_neg (by decide)]
        | ⟨2, _⟩ => by show 0 = if (1 : Nat) = 1 then 0 else h.val; rw [if_pos rfl]
        | ⟨3, _⟩ => by show e.val = if (64 : Nat) = 1 then 0 else e.val; rw [if_neg (by decide)]),
    broadcastInDim_apply _ bcast_S2x8448x64_S2x8448x1x64_0_1_3 _ (ix4 b t (0 : Fin 1) e) (ix3 b t e)
      (fun a => match a with
        | ⟨0, _⟩ => by show b.val = if (2 : Nat) = 1 then 0 else b.val; rw [if_neg (by decide)]
        | ⟨1, _⟩ => by show t.val = if (8448 : Nat) = 1 then 0 else t.val; rw [if_neg (by decide)]
        | ⟨2, _⟩ => by show e.val = if (64 : Nat) = 1 then 0 else e.val; rw [if_neg (by decide)])]

theorem k_nope (d : Fin 128) : kArr x2 x3 x5 x6 (ix3 b (posK κ) (lane h (laneN d))) = rows4 x2 x5 b h d κ := by
  unfold kArr
  refine (cut_k _ b (posK κ) h (laneN d)).trans ?_
  unfold kCat
  refine (lanes3_first _ _ _ _ b (posK κ) h (laneN d) d rfl).trans ?_
  exact kNope_apply x2 x5 b κ h d

theorem k_rope (e : Fin 64) : kArr x2 x3 x5 x6 (ix3 b (posK κ) (lane h (laneR e))) = rows3 x3 x6 b e κ := by
  unfold kArr
  refine (cut_k _ b (posK κ) h (laneR e)).trans ?_
  unfold kCat
  refine (lanes3_second _ _ _ _ b (posK κ) h (laneR e) e rfl).trans ?_
  rw [kRope8_apply]
  exact kRope_apply x3 x6 b κ e

theorem v_val (d : Fin 128) : vArr x2 x5 (ix3 b (posK κ) (lane h (laneN d))) = rows4 x2 x5 b h d κ := by
  unfold vArr
  refine (cut_k _ b (posK κ) h (laneN d)).trans ?_
  unfold vCat
  refine (lanes2_first _ _ _ b (posK κ) h (laneN d) d rfl).trans ?_
  exact kNope_apply x2 x5 b κ h d

theorem v_one (t : Fin 8448) (d : Fin 128) : vArr x2 x5 (ix3 b t (lane h (laneO d))) = 1 := by
  unfold vArr
  refine (cut_k _ b t h (laneO d)).trans ?_
  unfold vCat
  refine (lanes2_second _ _ _ b t h (laneO d) d rfl).trans ?_
  rw [broadcastInDim_apply _ bcast_S_S2x8448x8x128 _ (ix4 b t h d) ix0 (fun a => a.elim0)]
  show Ideal.ofBits .f32 0x3F800000#32 = 1
  simp [Ideal.ofBits, Ideal.ieee, -EReal.coe_mul]; norm_num
end Keys

theorem rsqrt_192 : Ideal.rsqrt (Ideal.ofBits .f32 0x43400000#32) = (((Real.sqrt 192)⁻¹ : ℝ) : EReal) := by
  have h : Ideal.ofBits .f32 0x43400000#32 = ((192 : ℝ) : EReal) := by simp [Ideal.ofBits, Ideal.ieee, -EReal.coe_mul]; norm_num
  rw [h, Ideal.rsqrt_coe, if_neg (by norm_num), if_neg (by norm_num)]

theorem scale_eq : scale ix0 = (((Real.sqrt 192)⁻¹ / Real.log 2 : ℝ) : EReal) := by
  have h : Ideal.ofBits .f32 0x40000000#32 = ((2 : ℝ) : EReal) := by simp [Ideal.ofBits, Ideal.ieee, -EReal.coe_mul]; norm_num
  show Ideal.div (Ideal.rsqrt (Ideal.ofBits .f32 0x43400000#32)) (Ideal.log (Ideal.ofBits .f32 0x40000000#32)) = _
  rw [rsqrt_192, h, Ideal.log_coe, if_neg (by norm_num), Ideal.div_coe (Real.log_pos (by norm_num)).ne', ← EReal.coe_mul, mul_one_div]

end Cert.KernelIdeal.Hand
end
-- ==== Proof.AttnRef.lean ====
/- The reference's attention, read at an index: the softmax of the scaled scores over the 256 context keys and the 8192
   latent keys, times the values. -/
module

public import proofs.«01_k».proof.Proof.Gen.ReferenceIdeal.Read
public import proofs.«01_k».proof.Proof.AttnMath
public import proofs.«01_k».proof.Proof.Cat
public import Idealize.ShloMosaic.Lib.KernelVsHost

@[expose] public section
noncomputable section
namespace Cert.ReferenceIdeal.Hand
open Idealize.ShloMosaic hiding ix0 ix1 ix2 ix3 ix4 eq_ix1 eq_ix2 eq_ix3 eq_ix4
open Cert.ReferenceIdeal Cert.ReferenceIdeal.Gen Cert.ReferenceIdeal.Read Idealize.ShloMosaic.ValueIdx Cert.Attn Idealize.ShloMosaic.TcCoe
open Facts

/-- The keys, as the reference orders them: the context rows, then the latent rows. -/
def posR : Fin 8192 ⊕ Fin 256 → Fin 8448 := Sum.elim (fun l => ⟨256 + l.val, by omega⟩) (fun c => ⟨c.val, by omega⟩)

theorem sum_posR (f : Fin 8448 → EReal) : ∑ t, f t = ∑ κ, f (posR κ) := by
  rw [Fintype.sum_sum_type, add_comm]
  exact Fin.sum_univ_add (a := 256) (b := 8192) f

theorem posR_surj (t : Fin 8448) : ∃ κ, posR κ = t := by
  by_cases h : t.val < 256
  · exact ⟨.inr ⟨t.val, h⟩, rfl⟩
  · exact ⟨.inl ⟨t.val - 256, by have := t.isLt; omega⟩, Fin.ext (show 256 + (t.val - 256) = t.val by omega)⟩

variable (x0 : FVec Ideal S2x8192x8x128 .f32) (x1 : FVec Ideal S2x8192x8x64 .f32) (x2 : FVec Ideal S2x8192x8x128 .f32)
  (x3 : FVec Ideal S2x8192x64 .f32) (x4 : FVec Ideal S2x8192x8x128 .f32) (x5 : FVec Ideal S2x256x8x128 .f32)
  (x6 : FVec Ideal S2x256x64 .f32) (x7 : FVec Ideal S2x256x8x128 .f32)

section Rows
variable (b : Fin 2) (κ : Fin 8192 ⊕ Fin 256) (h : Fin 8)

theorem v0_at (d : Fin 128) : val_main_v0 (F := Ideal) x2 x5 (ix4 b (posR κ) h d) = rows4 x2 x5 b h d κ := by
  unfold val_main_v0
  cases κ with
  | inl l => exact rows4_second x5 x2 _ b h d (posR (.inl l)) l rfl
  | inr c => exact rows4_first x5 x2 _ b h d (posR (.inr c)) c rfl

theorem v1_at (e : Fin 64) : val_main_v1 (F := Ideal) x3 x6 (ix3 b (posR κ) e) = rows3 x3 x6 b e κ := by
  unfold val_main_v1
  cases κ with
  | inl l => exact rows3_second x6 x3 _ b e (posR (.inl l)) l rfl
  | inr c => exact rows3_first x6 x3 _ b e (posR (.inr c)) c rfl

theorem v2_at (d : Fin 128) : val_main_v2 (F := Ideal) x4 x7 (ix4 b (posR κ) h d) = rows4 x4 x7 b h d κ := by
  unfold val_main_v2
  cases κ with
  | inl l => exact rows4_second x7 x4 _ b h d (posR (.inl l)) l rfl
  | inr c => exact rows4_first x7 x4 _ b h d (posR (.inr c)) c rfl
end Rows

/-- Where a row is real, so is its maximum. -/
theorem max_real (y : FVec Ideal S2x8x8192x8448 .f32) (b : Fin 2) (h : Fin 8) (l : Fin 8192) (h9 : ∀ t, IsReal (y (ix4 b h l t))) :
    IsReal (Host.reduce (FloatOps.maximumf (F := Ideal) (φ := .f32)) y (constant (F := Ideal) S_ .f32 0xFF800000#32) reducesTo_S2x8x8192x8448_S2x8x8192_d3 h_S_ (ix3 b h l)) := by
  rw [hostReduce_maximumf_eq_multiReduction y 0xFF800000#32 reducesTo_S2x8x8192x8448_S2x8x8192_d3 h_S_ (by decide) (by decide) (by decide)]
  refine (congrArg IsReal (Ideal.multiReduction_maximumf_single _ _ _ _ _ _)).mpr ?_
  rw [show (FloatOps.ofBits (F := Ideal) FTy.f32 0xFF800000#32) = (⊥ : EReal) from by show Ideal.ofBits .f32 0xFF800000#32 = ⊥; simp [Ideal.ofBits, Ideal.ieee]]
  refine isReal_fold_max _ ⟨(⟨0, by decide⟩ : Fin 8448), Finset.mem_univ _⟩ _ fun (j : Fin 8448) => ?_
  refine (congrArg (fun i => IsReal (y i)) ?_).mp (h9 j)
  exact ((eq_ix4 _).trans rfl).symm

/-- The scaled score of query `l` against key `κ`. -/
def score (b : Fin 2) (h : Fin 8) (l : Fin 8192) (κ : Fin 8192 ⊕ Fin 256) : EReal :=
  (∑ d : Fin 128, x0 (ix4 b l h d) * rows4 x2 x5 b h d κ + ∑ e : Fin 64, rows3 x3 x6 b e κ * x1 (ix4 b l h e))
    * Ideal.rsqrt (Ideal.ofBits .f32 0x43400000#32)

section Row
variable (b : Fin 2) (h : Fin 8) (l : Fin 8192)

theorem v4_at (κ : Fin 8192 ⊕ Fin 256) :
    val_main_v4 (F := Ideal) x0 x2 x5 (ix4 b h l (posR κ)) = ∑ d : Fin 128, x0 (ix4 b l h d) * rows4 x2 x5 b h d κ := by
  rw [val_main_v4_apply]
  refine Finset.sum_congr rfl fun d _ => congrArg₂ (· * ·) ?_ ?_
  · exact congrArg x0 ((eq_ix4 _).trans rfl)
  · exact (congrArg (val_main_v0 (F := Ideal) x2 x5) ((eq_ix4 _).trans rfl)).trans (v0_at x2 x5 b κ h d)

theorem v6_at (κ : Fin 8192 ⊕ Fin 256) :
    val_main_v6 (F := Ideal) x1 x3 x6 (ix4 b h l (posR κ)) = ∑ e : Fin 64, rows3 x3 x6 b e κ * x1 (ix4 b l h e) := by
  rw [val_main_v6_apply, val_main_v5_apply]
  refine Finset.sum_congr rfl fun e _ => congrArg₂ (· * ·) ?_ ?_
  · exact (congrArg (val_main_v1 (F := Ideal) x3 x6) ((eq_ix3 _).trans rfl)).trans (v1_at x3 x6 b κ e)
  · exact congrArg x1 ((eq_ix4 _).trans rfl)

theorem v9_at (κ : Fin 8192 ⊕ Fin 256) :
    val_main_v9 (F := Ideal) x0 x1 x2 x3 x5 x6 (ix4 b h l (posR κ)) = score x0 x1 x2 x3 x5 x6 b h l κ := by
  rw [val_main_v9_apply, val_main_v7_apply, v4_at, v6_at, val_main_v8_apply, val_main_v3_apply]
  rfl

variable (σ : Fin 8192 ⊕ Fin 256 → ℝ) (hσ : ∀ κ, score x0 x1 x2 x3 x5 x6 b h l κ = (σ κ : EReal))
include hσ

theorem v12_real : IsReal (val_main_v12 (F := Ideal) x0 x1 x2 x3 x5 x6 (ix3 b h l)) := by
  have h9 : ∀ t, IsReal (val_main_v9 (F := Ideal) x0 x1 x2 x3 x5 x6 (ix4 b h l t)) := fun t => by
    obtain ⟨κ, rfl⟩ := posR_surj t
    exact ⟨σ κ, (v9_at x0 x1 x2 x3 x5 x6 b h l κ).trans (hσ κ)⟩
  have h10 : IsReal (val_main_v10 (F := Ideal) x0 x1 x2 x3 x5 x6 (ix3 b h l)) := by
    unfold val_main_v10
    exact max_real _ b h l h9
  rw [val_main_v12_apply, val_main_v11_apply, val_main_cst_1_apply]
  rw [show (FloatOps.ofBits (F := Ideal) FTy.f32 0xFF800000#32) = (⊥ : EReal) from by show Ideal.ofBits .f32 0xFF800000#32 = ⊥; simp [Ideal.ofBits, Ideal.ieee]]
  rw [show (FloatOps.maximumf (F := Ideal) (φ := .f32) ⊥ (val_main_v10 (F := Ideal) x0 x1 x2 x3 x5 x6 (ix3 b h l)) = val_main_v10 (F := Ideal) x0 x1 x2 x3 x5 x6 (ix3 b h l)) from max_eq_right bot_le]
  exact h10

theorem v16_at (m : ℝ) (hm : val_main_v12 (F := Ideal) x0 x1 x2 x3 x5 x6 (ix3 b h l) = (m : EReal)) (κ : Fin 8192 ⊕ Fin 256) :
    val_main_v16 (F := Ideal) x0 x1 x2 x3 x5 x6 (ix4 b h l (posR κ)) = Ideal.exp ((σ κ : EReal) - (m : EReal)) := by
  rw [val_main_v16_apply, val_main_v15_apply, v9_at, hσ, val_main_v14_apply, val_main_v13_apply]
  rw [show idx_main_v13 (idx_main_v14 (ix4 b h l (posR κ))) = ix3 b h l from (eq_ix3 _).trans rfl, hm]
  rfl

theorem v20_at (m : ℝ) (hm : val_main_v12 (F := Ideal) x0 x1 x2 x3 x5 x6 (ix3 b h l) = (m : EReal)) (κ : Fin 8192 ⊕ Fin 256) :
    val_main_v20 (F := Ideal) x0 x1 x2 x3 x5 x6 (ix4 b h l (posR κ))
      = Ideal.div (Ideal.exp ((σ κ : EReal) - (m : EReal))) (∑ κ', Ideal.exp ((σ κ' : EReal) - (m : EReal))) := by
  rw [val_main_v20_apply, v16_at x0 x1 x2 x3 x5 x6 b h l σ hσ m hm, val_main_v19_apply, val_main_v18_apply]
  rw [show idx_main_v18 (idx_main_v19 (ix4 b h l (posR κ))) = ix3 b h l from (eq_ix3 _).trans rfl, val_main_v17_apply, val_main_cst_2_apply]
  rw [show (FloatOps.ofBits (F := Ideal) FTy.f32 0x00000000#32) = (0 : EReal) from Ideal.ofBits_zero_f32, zero_add, sum_posR]
  refine congrArg (Ideal.div _) (Finset.sum_congr rfl fun κ' _ => ?_)
  rw [show idx_main_v17 (ix3 b h l) (posR κ') = ix4 b h l (posR κ') from (eq_ix4 _).trans rfl]
  exact v16_at x0 x1 x2 x3 x5 x6 b h l σ hσ m hm κ'

/-- The reference's result at row `l`, lane `e` of head `h`. -/
theorem v24_at : ∃ m : ℝ, ∀ e : Fin 128, val_main_v24 (F := Ideal) x0 x1 x2 x3 x4 x5 x6 x7 (ix3 b l (⟨128 * h.val + e.val, by omega⟩ : Fin 1024))
    = ∑ κ, rows4 x4 x7 b h e κ * Ideal.div (Ideal.exp ((σ κ : EReal) - (m : EReal))) (∑ κ', Ideal.exp ((σ κ' : EReal) - (m : EReal))) := by
  obtain ⟨m, hm⟩ := v12_real x0 x1 x2 x3 x5 x6 b h l σ hσ
  refine ⟨m, fun e => ?_⟩
  rw [val_main_v24_apply]
  show val_main_v23 (F := Ideal) x0 x1 x2 x3 x4 x5 x6 x7 (ix3 b l (⟨128 * h.val + e.val, by omega⟩ : Fin 1024)) = _
  rw [val_main_v23_apply, val_main_v22_apply, val_main_v21_apply, sum_posR]
  have hi : idx_main_v22 (idx_main_v23 (ix3 b l (⟨128 * h.val + e.val, by omega⟩ : Fin 1024))) = ix4 b h e l := by
    refine (eq_ix4 _).trans ?_
    have hb := b.isLt; have hl := l.isLt; have hh := h.isLt; have he := e.isLt
    have e0 : ((b.val * 8192 + l.val) * 1024 + (128 * h.val + e.val)) / 8388608 = b.val := by omega
    have e1 : ((b.val * 8192 + l.val) * 1024 + (128 * h.val + e.val)) / 1024 % 8192 = l.val := by omega
    have e2 : ((b.val * 8192 + l.val) * 1024 + (128 * h.val + e.val)) / 128 % 8 = h.val := by omega
    have e3 : ((b.val * 8192 + l.val) * 1024 + (128 * h.val + e.val)) % 128 = e.val := by omega
    exact congr (congr (congr (congrArg ix4 (Fin.ext e0)) (Fin.ext e2)) (Fin.ext e3)) (Fin.ext e1)
  rw [hi]
  refine Finset.sum_congr rfl fun κ _ => congrArg₂ (· * ·) ?_ ?_
  · exact (congrArg (val_main_v2 (F := Ideal) x4 x7) ((eq_ix4 _).trans rfl)).trans (v2_at x4 x7 b κ h e)
  · exact (congrArg (val_main_v20 (F := Ideal) x0 x1 x2 x3 x5 x6) ((eq_ix4 _).trans rfl)).trans (v20_at x0 x1 x2 x3 x5 x6 b h l σ hσ m hm κ)

end Row

end Cert.ReferenceIdeal.Hand
end
-- ==== Proof.AttnPre.lean ====
/- What the precondition says: the arrays that make the scores hold real numbers only. -/
module

public import proofs.«01_k».proof.Defs
public import proofs.«01_k».proof.Proof.AttnMath
public import proofs.«01_k».proof.Proof.Cat

@[expose] public section
noncomputable section
namespace Cert.Attn
open Idealize.ShloMosaic hiding ix0 ix1 ix2 ix3 ix4 eq_ix1 eq_ix2 eq_ix3 eq_ix4
open Idealize.ShloMosaic.ValueIdx Idealize.ShloMosaic.TcCoe

/-- An extended real strictly between the two infinities is real. -/
theorem isReal_of_between (x : EReal) (h : Ideal.cmp .ogt x ⊥ &&& Ideal.cmp .olt x ⊤ = 1#1) : IsReal x := by
  unfold Ideal.cmp at h
  have h1 : ⊥ < x := by by_contra hn; simp [hn] at h
  have h2 : x < ⊤ := by by_contra hn; simp [hn] at h
  exact ⟨x.toReal, (EReal.coe_toReal h2.ne h1.ne').symm⟩

theorem neg_inf_word : Ideal.ofBits .f32 0xFF800000#32 = ⊥ := by simp [Ideal.ofBits, Ideal.ieee]
theorem inf_word : Ideal.ofBits .f32 0x7F800000#32 = ⊤ := by simp [Ideal.ofBits, Ideal.ieee]

/-- The test of one array, read at one index. -/
theorem isReal_of_test {s u : Shape} (f : Fin u.rank → Fin s.rank) (hb : u.BroadcastsInDim s f) (x : FVec Ideal s .f32)
    (h : andi (cmpf .ogt x (broadcastInDim s f hb (constant u .f32 0xFF800000#32 : FVec Ideal u .f32)))
      (cmpf .olt x (broadcastInDim s f hb (constant u .f32 0x7F800000#32 : FVec Ideal u .f32))) = fun _ => 1#1) (i : s.Idx) : IsReal (x i) := by
  have h1 : Ideal.cmp .ogt (x i) (Ideal.ofBits .f32 0xFF800000#32) &&& Ideal.cmp .olt (x i) (Ideal.ofBits .f32 0x7F800000#32) = 1#1 := congrFun h i
  rw [neg_inf_word, inf_word] at h1
  exact isReal_of_between _ h1

section Test
variable [Cert.Pre_finite_qk.Facts]
open Cert.Pre_finite_qk Cert.Pre_finite_qk.Facts
variable (x0 : FVec Ideal S2x8192x8x128 .f32) (x1 : FVec Ideal S2x8192x8x64 .f32) (x2 : FVec Ideal S2x8192x8x128 .f32) (x3 : FVec Ideal S2x8192x64 .f32)
  (x4 : FVec Ideal S2x8192x8x128 .f32) (x5 : FVec Ideal S2x256x8x128 .f32) (x6 : FVec Ideal S2x256x64 .f32) (x7 : FVec Ideal S2x256x8x128 .f32)

theorem real0 (h : (fn x0 x1 x2 x3 x4 x5 x6 x7).1 = fun _ => 1#1) (i) : IsReal (x0 i) := isReal_of_test _ bcast_S_S2x8192x8x128 x0 h i
theorem real1 (h : (fn x0 x1 x2 x3 x4 x5 x6 x7).2.1 = fun _ => 1#1) (i) : IsReal (x1 i) := isReal_of_test _ bcast_S_S2x8192x8x64 x1 h i
theorem real2 (h : (fn x0 x1 x2 x3 x4 x5 x6 x7).2.2.1 = fun _ => 1#1) (i) : IsReal (x2 i) := isReal_of_test _ bcast_S_S2x8192x8x128 x2 h i
theorem real3 (h : (fn x0 x1 x2 x3 x4 x5 x6 x7).2.2.2.1 = fun _ => 1#1) (i) : IsReal (x3 i) := isReal_of_test _ bcast_S_S2x8192x64 x3 h i
theorem real5 (h : (fn x0 x1 x2 x3 x4 x5 x6 x7).2.2.2.2.1 = fun _ => 1#1) (i) : IsReal (x5 i) := isReal_of_test _ bcast_S_S2x256x8x128 x5 h i
theorem real6 (h : (fn x0 x1 x2 x3 x4 x5 x6 x7).2.2.2.2.2 = fun _ => 1#1) (i) : IsReal (x6 i) := isReal_of_test _ bcast_S_S2x256x64 x6 h i
end Test

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem rows4_real (x : FVec Ideal ⟨4, ![2, 8192, 8, 128]⟩ .f32) (y : FVec Ideal ⟨4, ![2, 256, 8, 128]⟩ .f32) (hx : ∀ i, IsReal (x i)) (hy : ∀ i, IsReal (y i))
    (b : Fin 2) (h : Fin 8) (d : Fin 128) (κ : Fin 8192 ⊕ Fin 256) : IsReal (rows4 x y b h d κ) := by
  cases κ with
  | inl l => exact hx _
  | inr c => exact hy _
theorem rows3_real (x : FVec Ideal ⟨3, ![2, 8192, 64]⟩ .f32) (y : FVec Ideal ⟨3, ![2, 256, 64]⟩ .f32) (hx : ∀ i, IsReal (x i)) (hy : ∀ i, IsReal (y i))
    (b : Fin 2) (e : Fin 64) (κ : Fin 8192 ⊕ Fin 256) : IsReal (rows3 x y b e κ) := by
  cases κ with
  | inl l => exact hx _
  | inr c => exact hy _

/-- Scaling the queries by `A / log 2` before the product, with lanes of zeros added, gives the scaled score over `log 2`. -/
theorem score_link {ι ι' ι'' : Type*} [Fintype ι] [Fintype ι'] [Fintype ι''] (q k : ι → EReal) (q' k' : ι' → EReal) (k'' : ι'' → EReal) (A : ℝ)
    (hq : ∀ i, IsReal (q i)) (hk : ∀ i, IsReal (k i)) (hq' : ∀ i, IsReal (q' i)) (hk' : ∀ i, IsReal (k' i)) :
    ∃ S σ : ℝ, σ = Real.log 2 * S
      ∧ (∑ i, q i * k i + ∑ i, k' i * q' i) * ((A : ℝ) : EReal) = (σ : EReal)
      ∧ ∑ i, q i * ((A / Real.log 2 : ℝ) : EReal) * k i + (∑ i, q' i * ((A / Real.log 2 : ℝ) : EReal) * k' i + ∑ i, (0 : EReal) * ((A / Real.log 2 : ℝ) : EReal) * k'' i) = (S : EReal) := by
  choose q₀ hq₀ using hq
  choose k₀ hk₀ using hk
  choose q₁ hq₁ using hq'
  choose k₁ hk₁ using hk'
  refine ⟨∑ i, q₀ i * (A / Real.log 2) * k₀ i + ∑ i, q₁ i * (A / Real.log 2) * k₁ i, (∑ i, q₀ i * k₀ i + ∑ i, k₁ i * q₁ i) * A, ?_, ?_, ?_⟩
  · have hl : Real.log 2 ≠ 0 := (Real.log_pos (by norm_num)).ne'
    rw [mul_add, Finset.mul_sum, Finset.mul_sum, add_mul, Finset.sum_mul, Finset.sum_mul]
    refine congrArg₂ (· + ·) (Finset.sum_congr rfl fun i _ => ?_) (Finset.sum_congr rfl fun i _ => ?_)
    · field_simp
    · field_simp
  · rw [EReal.coe_mul, EReal.coe_add, coe_sum, coe_sum]
    simp only [hq₀, hk₀, hq₁, hk₁, EReal.coe_mul]
  · simp only [zero_mul, Finset.sum_const_zero, add_zero]
    rw [EReal.coe_add, coe_sum, coe_sum]
    simp only [hq₀, hk₀, hq₁, hk₁, EReal.coe_mul]

end Cert.Attn
end
-- ==== Proof.AttnValue.lean ====
/- One block of the kernel's attention is the reference's attention at the block's rows and lanes. -/
module

public import proofs.«01_k».proof.Proof.AttnEntry
public import proofs.«01_k».proof.Proof.AttnHost
public import proofs.«01_k».proof.Proof.AttnRef
public import proofs.«01_k».proof.Proof.AttnPre

@[expose] public section
noncomputable section
namespace Cert.KernelIdeal.Hand
open Idealize.ShloMosaic hiding ix0 ix1 ix2 ix3 ix4 eq_ix1 eq_ix2 eq_ix3 eq_ix4
open Cert.KernelIdeal Cert.KernelIdeal.Gen Idealize.ShloMosaic.ValueIdx Cert.Attn Idealize.ShloMosaic.TcCoe
open Cert.ReferenceIdeal.Hand (score v24_at)
open Facts

theorem posK_surj (t : Fin 8448) : ∃ κ, posK κ = t := by
  by_cases h : t.val < 8192
  · exact ⟨.inl ⟨t.val, h⟩, rfl⟩
  · exact ⟨.inr ⟨t.val - 8192, by have := t.isLt; omega⟩, Fin.ext (show 8192 + (t.val - 8192) = t.val by omega)⟩

section Block
variable (x0 : FVec Ideal S2x8192x8x128 .f32) (x1 : FVec Ideal S2x8192x8x64 .f32) (x2 : FVec Ideal S2x8192x8x128 .f32)
  (x3 : FVec Ideal S2x8192x64 .f32) (x4 : FVec Ideal S2x8192x8x128 .f32) (x5 : FVec Ideal S2x256x8x128 .f32)
  (x6 : FVec Ideal S2x256x64 .f32) (x7 : FVec Ideal S2x256x8x128 .f32)
  (h0 : ∀ i, IsReal (x0 i)) (h1 : ∀ i, IsReal (x1 i)) (h2 : ∀ i, IsReal (x2 i)) (h3 : ∀ i, IsReal (x3 i)) (h5 : ∀ i, IsReal (x5 i)) (h6 : ∀ i, IsReal (x6 i))
  (b : Fin 2) (h : Fin 8) (l : Fin 8192)

include h0 h1 h2 h3 h5 h6 in
/-- The two scores of one query and one key: both real, the reference's log 2 times the kernel's. -/
theorem scores (κ : Fin 8192 ⊕ Fin 256) : ∃ S σ : ℝ, σ = Real.log 2 * S ∧ score x0 x1 x2 x3 x5 x6 b h l κ = (σ : EReal)
    ∧ ∑ d : Fin 256, qArr x0 x1 (ix3 b l (lane h d)) * kArr x2 x3 x5 x6 (ix3 b (posK κ) (lane h d)) = (S : EReal) := by
  obtain ⟨S, σ, e, hσ, hS⟩ := score_link (fun d : Fin 128 => x0 (ix4 b l h d)) (fun d => rows4 x2 x5 b h d κ)
    (fun e : Fin 64 => x1 (ix4 b l h e)) (fun e => rows3 x3 x6 b e κ) (fun e : Fin 64 => kArr x2 x3 x5 x6 (ix3 b (posK κ) (lane h (laneP e)))) (Real.sqrt 192)⁻¹
    (fun d => h0 _) (fun d => rows4_real x2 x5 h2 h5 b h d κ) (fun e => h1 _) (fun e => rows3_real x3 x6 h3 h6 b e κ)
  refine ⟨S, σ, e, ?_, ?_⟩
  · unfold score
    rw [rsqrt_192]
    exact hσ
  · rw [sum_lanes, ← hS]
    refine congrArg₂ (· + ·) (Finset.sum_congr rfl fun d _ => ?_) (congrArg₂ (· + ·) (Finset.sum_congr rfl fun e _ => ?_) (Finset.sum_congr rfl fun e _ => ?_))
    · rw [qArr_apply, q_nope, scale_eq, k_nope]
    · rw [qArr_apply, q_rope, scale_eq, k_rope]
    · rw [qArr_apply, q_pad, scale_eq]

include h0 h1 h2 h3 h5 h6 in
/-- Row `r` of a block, given that the blocks hold the rows and lanes of query `l` and head `h`. -/
theorem block_value (q : Vec Ideal S1x1024x256 .bf16) (k v : Vec Ideal S1x8448x256 .bf16) (r : Fin 1024) (e : Fin 128)
    (hq : ∀ d : Fin 256, q (ix3 (0 : Fin 1) r d) = qArr x0 x1 (ix3 b l (lane h d)))
    (hk : ∀ (t : Fin 8448) (d : Fin 256), k (ix3 (0 : Fin 1) t d) = kArr x2 x3 x5 x6 (ix3 b t (lane h d)))
    (hv : ∀ (t : Fin 8448) (d : Fin 256), v (ix3 (0 : Fin 1) t d) = vArr x4 x7 (ix3 b t (lane h d))) :
    outAt q k v (ix3 (0 : Fin 1) r e)
      = Cert.ReferenceIdeal.Read.val_main_v24 (F := Ideal) x0 x1 x2 x3 x4 x5 x6 x7 (ix3 b l (⟨128 * h.val + e.val, by omega⟩ : Fin 1024)) := by
  choose S σ hlink hσ hS using scores x0 x1 x2 x3 x5 x6 h0 h1 h2 h3 h5 h6 b h l
  have ht : ∀ t : Fin 8448, ∃ s : ℝ, ∑ d : Fin 256, q (ix3 (0 : Fin 1) r d) * k (ix3 (0 : Fin 1) t d) = (s : EReal) := fun t => by
    obtain ⟨κ, rfl⟩ := posK_surj t
    exact ⟨S κ, (Finset.sum_congr rfl fun d _ => by rw [hq, hk]).trans (hS κ)⟩
  choose T hT using ht
  have hTS : ∀ κ, T (posK κ) = S κ := fun κ => EReal.coe_injective
    ((hT (posK κ)).symm.trans ((Finset.sum_congr rfl fun d _ => by rw [hq, hk]).trans (hS κ)))
  obtain ⟨M, hM⟩ := acc_all q k v r T hT
  obtain ⟨m, hm⟩ := v24_at x0 x1 x2 x3 x4 x5 x6 x7 b h l σ hσ
  rw [outAt_apply, hm e, hM, hM, sum_posK, sum_posK]
  have hval : ∀ κ, v (ix3 (0 : Fin 1) (posK κ) (⟨e.val, by omega⟩ : Fin 256)) = rows4 x4 x7 b h e κ := fun κ =>
    (hv (posK κ) (laneN e)).trans (v_val x4 x7 b κ h e)
  have hone : ∀ κ, v (ix3 (0 : Fin 1) (posK κ) (⟨128 + e.val, by omega⟩ : Fin 256)) = (1 : EReal) := fun κ =>
    (hv (posK κ) (laneO e)).trans (v_one x4 x7 b h (posK κ) e)
  simp only [hval, hone, hTS]
  exact quotient S σ (fun κ => rows4 x4 x7 b h e κ) M m hlink
end Block

end Cert.KernelIdeal.Hand
end
-- ==== Proof.AttnFound.lean ====
/- The three arrays, found in memory when the attention call starts. -/
module

public import proofs.«01_k».proof.Proof.AttnHost

@[expose] public section
noncomputable section
namespace Cert.KernelIdeal.Hand
open Idealize.ShloMosaic hiding ix0 ix1 ix2 ix3 ix4 eq_ix1 eq_ix2 eq_ix3 eq_ix4
open Cert.KernelIdeal Cert.KernelIdeal.Gen Idealize.ShloMosaic.ValueIdx Cert.Attn Idealize.ShloMosaic.TcCoe Idealize.SL.Sem
open Facts

variable (m : (ℓ : Loc nD τ sig) → Buf (Elt Ideal) ℓ) (c : Dev nD)

theorem V_q : V m c main_v8 = qArr (m ((c : Thread nD τ).loc main_arg0)) (m ((c : Thread nD τ).loc main_arg1)) := by
  unfold V; after_results; rfl
theorem V_k : V m c main_v16 = kArr (m ((c : Thread nD τ).loc main_arg2)) (m ((c : Thread nD τ).loc main_arg3)) (m ((c : Thread nD τ).loc main_arg5)) (m ((c : Thread nD τ).loc main_arg6)) := by
  unfold V; after_results; rfl
theorem V_v : V m c main_v20 = vArr (m ((c : Thread nD τ).loc main_arg4)) (m ((c : Thread nD τ).loc main_arg7)) := by
  unfold V; after_results; rfl

end Cert.KernelIdeal.Hand
end
-- ==== Proof.AttnFinal.lean ====
/- The attention call's result is the reference's array: block by block, and the blocks cover the array. -/
module

public import proofs.«01_k».proof.Proof.AttnValue
public import proofs.«01_k».proof.Proof.AttnFound
public import proofs.«01_k».proof.Proof.Gen.KernelIdeal.Value
public import Idealize.ShloMosaic.Lib.Pipeline.ValueKit

@[expose] public section
noncomputable section
namespace Cert.KernelIdeal.Hand
open Idealize.ShloMosaic hiding ix0 ix1 ix2 ix3 ix4 eq_ix1 eq_ix2 eq_ix3 eq_ix4
open Cert.KernelIdeal Cert.KernelIdeal.Gen Idealize.ShloMosaic.ValueIdx Cert.Attn Idealize.ShloMosaic.TcCoe Idealize.SL.Sem
open Facts

theorem index0 : ∀ t : Fin cfg0.N, win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val])
theorem index1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem index2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem index3 : ∀ t : Fin cfg0.N, win0_3.index t = ![(grid0.coords t 0).val, (grid0.coords t 2).val, (grid0.coords t 1).val] :=
  (by decide +kernel : ∀ t : Fin grid0.N, win0_3.index t = ![(grid0.coords t 0).val, (grid0.coords t 2).val, (grid0.coords t 1).val])

/-- The batch, the head and the row block of a grid point. -/
def gb (t : Fin cfg0.N) : Fin 2 := ⟨(grid0.coords t 0).val, (grid0.coords t 0).isLt⟩
def gh (t : Fin cfg0.N) : Fin 8 := ⟨(grid0.coords t 1).val, (grid0.coords t 1).isLt⟩
def gi (t : Fin cfg0.N) : Fin 8 := ⟨(grid0.coords t 2).val, (grid0.coords t 2).isLt⟩
/-- Row `r` of row block `i`. -/
def rowOf (i : Fin 8) (r : Fin 1024) : Fin 8192 := ⟨1024 * i.val + r.val, by omega⟩

variable (m : (ℓ : Loc nD τ sig) → Buf (Elt Ideal) ℓ) (c : Dev nD) (t : Fin cfg0.N)

theorem q_read (f : FVec Ideal S2x8192x2048 .bf16) (r : Fin 1024) (d : Fin 256) :
    ((cfg0.win 0).blk t).view.read (Elt Ideal) f (ix3 (0 : Fin 1) r d) = f (ix3 (gb t) (rowOf (gi t) r) (lane (gh t) d)) := by
  rw [View.read_apply]
  refine congrArg f ((eq_ix3 _).trans ?_)
  refine congr (congr (congrArg ix3 (Fin.ext ?_)) (Fin.ext ?_)) (Fin.ext ?_)
  · blk_simp [index0]; rfl
  · blk_simp [index0]; show (grid0.coords t 2).val * 1024 + r.val = 1024 * (grid0.coords t 2).val + r.val; omega
  · blk_simp [index0]; show (grid0.coords t 1).val * 256 + d.val = 256 * (grid0.coords t 1).val + d.val; omega

theorem q_block (r : Fin 1024) (d : Fin 256) : iblk m c 0 t (ix3 (0 : Fin 1) r d) = V m c main_v8 (ix3 (gb t) (rowOf (gi t) r) (lane (gh t) d)) := by
  unfold iblk
  exact q_read t (V m c main_v8) r d

theorem k_read (f : FVec Ideal S2x8448x2048 .bf16) (s : Fin 8448) (d : Fin 256) :
    ((cfg0.win 1).blk t).view.read (Elt Ideal) f (ix3 (0 : Fin 1) s d) = f (ix3 (gb t) (s) (lane (gh t) d)) := by
  rw [View.read_apply]
  refine congrArg f ((eq_ix3 _).trans ?_)
  refine congr (congr (congrArg ix3 (Fin.ext ?_)) (Fin.ext ?_)) (Fin.ext ?_)
  · blk_simp [index1]; rfl
  · blk_simp [index1]
  · blk_simp [index1]; show (grid0.coords t 1).val * 256 + d.val = 256 * (grid0.coords t 1).val + d.val; omega

theorem k_block (s : Fin 8448) (d : Fin 256) : iblk m c 1 t (ix3 (0 : Fin 1) s d) = V m c main_v16 (ix3 (gb t) (s) (lane (gh t) d)) := by
  unfold iblk
  exact k_read t (V m c main_v16) s d

theorem v_read (f : FVec Ideal S2x8448x2048 .bf16) (s : Fin 8448) (d : Fin 256) :
    ((cfg0.win 2).blk t).view.read (Elt Ideal) f (ix3 (0 : Fin 1) s d) = f (ix3 (gb t) (s) (lane (gh t) d)) := by
  rw [View.read_apply]
  refine congrArg f ((eq_ix3 _).trans ?_)
  refine congr (congr (congrArg ix3 (Fin.ext ?_)) (Fin.ext ?_)) (Fin.ext ?_)
  · blk_simp [index2]; rfl
  · blk_simp [index2]
  · blk_simp [index2]; show (grid0.coords t 1).val * 256 + d.val = 256 * (grid0.coords t 1).val + d.val; omega

theorem v_block (s : Fin 8448) (d : Fin 256) : iblk m c 2 t (ix3 (0 : Fin 1) s d) = V m c main_v20 (ix3 (gb t) (s) (lane (gh t) d)) := by
  unfold iblk
  exact v_read t (V m c main_v20) s d

/-- The reference's array, of the arguments found in memory. -/
def goal : FVec Ideal S2x8192x1024 .bf16 :=
  Cert.ReferenceIdeal.Read.val_main_v24 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))

/-- The arrays that make the scores are real. -/
def Real6 : Prop := (∀ i, IsReal (m ((c : Thread nD τ).loc main_arg0) i)) ∧ (∀ i, IsReal (m ((c : Thread nD τ).loc main_arg1) i))
  ∧ (∀ i, IsReal (m ((c : Thread nD τ).loc main_arg2) i)) ∧ (∀ i, IsReal (m ((c : Thread nD τ).loc main_arg3) i))
  ∧ (∀ i, IsReal (m ((c : Thread nD τ).loc main_arg5) i)) ∧ (∀ i, IsReal (m ((c : Thread nD τ).loc main_arg6) i))

theorem outs_value (hR : Real6 m c) (r : Fin 1024) (e : Fin 128) :
    outsAt0 m c t (ix3 (0 : Fin 1) r e) = goal m c (ix3 (gb t) (rowOf (gi t) r) (⟨128 * (gh t).val + e.val, by omega⟩ : Fin 1024)) := by
  obtain ⟨h0, h1, h2, h3, h5, h6⟩ := hR
  rw [outs_eq]
  refine block_value _ _ _ _ _ _ _ _ h0 h1 h2 h3 h5 h6 (gb t) (gh t) (rowOf (gi t) r) _ _ _ r e (fun d => ?_) (fun s d => ?_) (fun s d => ?_)
  · rw [q_block, V_q]
  · rw [k_block, V_k]
  · rw [v_block, V_v]

/-- What grid point `t` leaves at an index of its block is the reference's array where the block places that index. -/
theorem placed (hR : Real6 m c) (y : S1x1024x128.Idx) (j : S2x8192x1024.Idx)
    (hj0 : (j 0).val = (grid0.coords t 0).val) (hj1 : (j 1).val = (grid0.coords t 2).val * 1024 + (y 1).val) (hj2 : (j 2).val = (grid0.coords t 1).val * 128 + (y 2).val) :
    outsAt0 m c t y = goal m c j := by
  have hy : y = ix3 (0 : Fin 1) (⟨(y 1).val, (y 1).isLt⟩ : Fin 1024) (⟨(y 2).val, (y 2).isLt⟩ : Fin 128) := by
    refine (eq_ix3 y).trans (congr (congr (congrArg ix3 (Fin.ext ?_)) (Fin.ext rfl)) (Fin.ext rfl))
    have : (y 0).val < 1 := (y 0).isLt
    show (y 0).val = 0
    omega
  rw [hy, outs_value m c t hR]
  refine congrArg (goal m c) (((eq_ix3 j).trans (congr (congr (congrArg ix3 (Fin.ext ?_)) (Fin.ext ?_)) (Fin.ext ?_))).symm)
  · exact hj0
  · show (j 1).val = 1024 * (grid0.coords t 2).val + (y 1).val; omega
  · show (j 2).val = 128 * (grid0.coords t 1).val + (y 2).val; omega

theorem final (hR : Real6 m c) : (dats m 0 c).arrAt 3 cfg0.N = goal m c := by
  refine (dats m 0 c).arrAt_eq_of_covers 3 _ (by decide +kernel) fun t hf y => ?_
  blk_simp
  rw [after0_3]
  refine placed m c t hR _ _ ?_ ?_ ?_
  · blk_simp [index3]
  · blk_simp [index3]
  · blk_simp [index3]

end Cert.KernelIdeal.Hand
end
-- ==== Proof.AttnClaim.lean ====
/- The attention's value claim. -/
module

public import proofs.«01_k».proof.Defs
public import proofs.«01_k».proof.Proof.AttnFinal
public import proofs.«01_k».proof.Proof.Gen.ReferenceIdeal.Read
public import proofs.«01_k».proof.Proof.Gen.Kernel.Frame
public import Idealize.ShloMosaic.Adequacy
public import Idealize.ShloMosaic.Init

@[expose] public section
noncomputable section
namespace Cert.AttnClaim
open Idealize.ShloMosaic Idealize.ShloMosaic.TcCoe Idealize.SL.Sem Cert.Attn Cert.KernelIdeal.Hand

/-- The precondition's shape facts. -/
theorem preFacts : Cert.Pre_finite_qk.Facts where
  bcast_S_S2x8192x8x128 := by decide
  bcast_S_S2x8192x8x64 := by decide
  bcast_S_S2x8192x64 := by decide
  bcast_S_S2x256x8x128 := by decide
  bcast_S_S2x256x64 := by decide

variable [Cert.Pre_finite_qk.Facts]

theorem real6 (m : (ℓ : Loc Cert.KernelIdeal.nD Cert.KernelIdeal.τ Cert.KernelIdeal.sig) → Buf (Elt Ideal) ℓ)
    (h : Cert.Pre_KernelIdeal_finite_qk m) (c : Dev Cert.KernelIdeal.nD) : Real6 m c := by
  obtain ⟨h0, h1, h2, h3, h5, h6⟩ := h c
  exact ⟨real0 _ _ _ _ _ _ _ _ h0, real1 _ _ _ _ _ _ _ _ h1, real2 _ _ _ _ _ _ _ _ h2, real3 _ _ _ _ _ _ _ _ h3, real5 _ _ _ _ _ _ _ _ h5, Cert.Attn.real6 _ _ _ _ _ _ _ _ h6⟩

theorem frame_kernel : Cert.quiescent_Kernel := fun m g _ => Cert.Kernel.Gen.frame m g
theorem frame_ideal : Cert.quiescent_KernelIdeal := fun m g _ => Cert.KernelIdeal.Gen.frame m g
theorem frame_ideal_pre : Cert.quiescent_KernelIdeal_pre_finite_qk := fun m g _ => Cert.KernelIdeal.Gen.frame m g

theorem frame_reference : Cert.quiescent_ReferenceIdeal := fun m g _ =>
  (θ_run Cert.ReferenceIdeal.defs _ _).mono (fun r h => ⟨fun c => (h c).2,
      sem_eq_zero_of_no_sems (by decide) r.2⟩)
    (Cert.ReferenceIdeal.Value.run (F := Ideal) m g)
theorem frame_reference_pre : Cert.quiescent_ReferenceIdeal_pre_finite_qk := fun m g _ =>
  (θ_run Cert.ReferenceIdeal.defs _ _).mono (fun r h => ⟨fun c => (h c).2,
      sem_eq_zero_of_no_sems (by decide) r.2⟩)
    (Cert.ReferenceIdeal.Value.run (F := Ideal) m g)

theorem algebraic : Cert.algebraic_KernelIdeal_ReferenceIdeal_pre_finite_qk := by
  intro m g m' g' hpre hargs
  refine ⟨fun c => goal m c, (θ_run Cert.KernelIdeal.defs _ _).mono (fun r h c => ?_) (Cert.KernelIdeal.Value.run_blocks m g),
    (θ_run Cert.ReferenceIdeal.defs _ _).mono (fun r h c => ⟨(h c).1.trans ?_, (h c).2⟩) (Cert.ReferenceIdeal.Value.run m' g')⟩
  · obtain ⟨h1, h2⟩ := h c
    exact ⟨h1.trans (final m c (real6 m hpre c)), h2⟩
  · obtain ⟨e0, e1, e2, e3, e4, e5, e6, e7⟩ := hargs c
    rw [Cert.ReferenceIdeal.Read.val_main_v24_eq, e0, e1, e2, e3, e4, e5, e6, e7]
    rfl

end Cert.AttnClaim
end
-- ==== Proof.FfnBlock.lean ====
/- What one grid point of the feed-forward call computes, of the blocks staged for it: three tiles of 256 rows, each with
   its own modulation, through the hidden layer in two halves. -/
module

public import proofs.«01_k».proof.Proof.Gen.Kernel2Ideal.Value
public import Idealize.ShloMosaic.Lib.Pipeline.ValueKit
public import Idealize.ShloMosaic.Lib.Pipeline.ReadBack

@[expose] public section
noncomputable section
namespace Cert.Kernel2Ideal.Hand
open Cert.Kernel2Ideal Cert.Kernel2Ideal.Gen Idealize.ShloMosaic Idealize.ShloMosaic.TcCoe Idealize.SL.Sem Idealize.ShloMosaic.Tactic
open Idealize.ShloMosaic.Pipeline (Dat)
open Facts
variable {F : FTy → Type} [FloatOps F]
variable (m : (ℓ : Loc nD τ sig) → Buf (Elt F) ℓ)

/-- One over the root mean square of each of a tile's rows. -/
def inv (h : FVec F S256x1024 .f32) : FVec F S256x1 .f32 :=
  rsqrt (addf (divf (shapeCast S256x1 (multiReduction .add [1] S256 (mulf h h) 0x00000000#32 reduces_S256x1024_S256 (.inl rfl) rfl :
    FVec F S256 .f32) shapeCasts_S256_S256x1) (broadcast S256x1 (Scalar.ofBits .f32 0x44800000#32))) (broadcast S256x1 (Scalar.ofBits .f32 0x358637BD#32)))

/-- A tile normalised, scaled and shifted. -/
def modT (h : FVec F S256x1024 .f32) (g sh sc : FVec F S1x1024 .f32) : FVec F S256x1024 .f32 :=
  addf (mulf (mulf (mulf h (broadcastTo S256x1024 (inv h) broadcasts_S256x1_S256x1024)) (broadcastTo S256x1024 g broadcasts_S1x1024_S256x1024))
    (broadcastTo S256x1024 (addf (broadcast S1x1024 (Scalar.ofBits .f32 0x3F800000#32)) sc) broadcasts_S1x1024_S256x1024))
    (broadcastTo S256x1024 sh broadcasts_S1x1024_S256x1024)

/-- A tile plus its gate times the normalised result of its hidden layer. -/
def addT (h f : FVec F S256x1024 .f32) (g gt : FVec F S1x1024 .f32) : FVec F S256x1024 .f32 :=
  addf h (mulf (broadcastTo S256x1024 gt broadcasts_S1x1024_S256x1024)
    (mulf (mulf f (broadcastTo S256x1024 (inv f) broadcasts_S256x1_S256x1024)) (broadcastTo S256x1024 g broadcasts_S1x1024_S256x1024)))

/-- SiLU of a product, over one half of the hidden lanes. -/
def siluT (a : FVec F S768x1024 .bf16) (w : Vec F S1024x1408 .bf16) : FVec F S768x1408 .f32 :=
  mulf (matmul dot_S768x1024_S1024x1408_S768x1408_1_0_0_1_n_n none a w (constant S768x1408 .f32 0x00000000#32))
    (logistic (matmul dot_S768x1024_S1024x1408_S768x1408_1_0_0_1_n_n none a w (constant S768x1408 .f32 0x00000000#32)))

/-- One half of the hidden lanes, projected back. -/
def partT (a : FVec F S768x1024 .bf16) (wg wu : Vec F S1024x1408 .bf16) (wd : Vec F S1408x1024 .bf16) : FVec F S768x1024 .f32 :=
  matmul dot_S768x1408_S1408x1024_S768x1024_1_0_0_1_n_n none
    (truncf .bf16 (mulf (siluT a wg) (matmul dot_S768x1024_S1024x1408_S768x1408_1_0_0_1_n_n none a wu (constant S768x1408 .f32 0x00000000#32))) bitsLt_bf16_f32 :
      FVec F S768x1408 .bf16) wd (constant S768x1024 .f32 0x00000000#32)

/-- The modulated rows of the three tiles, one above the other. -/
def rowsT (a b c : FVec F S256x1024 .f32) : FVec F S768x1024 .bf16 :=
  truncf .bf16 (concatenate S768x1024 0 [⟨S256x1024, a⟩, ⟨S256x1024, b⟩, ⟨S256x1024, c⟩] concatenates_S256x1024_S256x1024_S256x1024_S768x1024_d0) bitsLt_bf16_f32

/-- Tile `s` of the staged rows lies inside them. -/
theorem tile_inb (s : ℕ) (h : s < 3) (a : Fin S1x768x1024.rank) :
    (![0, 256 * s, 0] : Fin 3 → ℕ) a + S1x256x1024.size a ≤ S1x768x1024.size a := by
  match a with
  | ⟨0, _⟩ => exact Nat.le_refl 1
  | ⟨1, _⟩ => show 256 * s + 256 ≤ 768; omega
  | ⟨2, _⟩ => exact Nat.le_refl 1024

theorem acc_inb (s : ℕ) (h : s < 3) (a : Fin S768x1024.rank) :
    (![256 * s, 0] : Fin 2 → ℕ) a + S256x1024.size a ≤ S768x1024.size a := by
  match a with
  | ⟨0, _⟩ => show 256 * s + 256 ≤ 768; omega
  | ⟨1, _⟩ => exact Nat.le_refl 1024

/-- Tile `s` of the staged rows. -/
def tileH (H : Vec F S1x768x1024 .f32) (s : ℕ) (h : s < 3) : FVec F S256x1024 .f32 :=
  shapeCast S256x1024 (View.ld H (Rect.unit (s := S1x768x1024) ![0, 256 * s, 0] S1x256x1024.size (tile_inb s h))) shapeCasts_S1x256x1024_S256x1024

/-- Tile `s` of the accumulator. -/
def tileA (A : Vec F S768x1024 .f32) (s : ℕ) (h : s < 3) : FVec F S256x1024 .f32 :=
  View.ld A (Rect.unit (s := S768x1024) ![256 * s, 0] S256x1024.size (acc_inb s h))

/-- The modulation rows found at an offset. -/
def modsAt (M : Vec F S3x8x1024 .f32) (o : Fin 3 → ℕ) (h : ∀ a, o a + S1x8x1024.size a ≤ S3x8x1024.size a) : FVec F S8x1024 .f32 :=
  shapeCast S8x1024 (View.ld M (Rect.unit (s := S3x8x1024) o S1x8x1024.size h)) shapeCasts_S1x8x1024_S8x1024

def shiftOf (μ : FVec F S8x1024 .f32) : FVec F S1x1024 .f32 := extractStridedSlice S1x1024 ![3, 0] μ slices_S8x1024_o3_0_S1x1024
def scaleOf (μ : FVec F S8x1024 .f32) : FVec F S1x1024 .f32 := extractStridedSlice S1x1024 ![4, 0] μ slices_S8x1024_o4_0_S1x1024
def gateOf (μ : FVec F S8x1024 .f32) : FVec F S1x1024 .f32 := extractStridedSlice S1x1024 ![5, 0] μ slices_S8x1024_o5_0_S1x1024

section Payloads
theorem pay8_eq (h : FVec F S256x1024 .f32) (μ : FVec F S8x1024 .f32) (g : Vec F S1x1024 .f32) :
    k0_pay8 h μ g = modT h (shapeCast S1x1024 g shapeCasts_S1x1024_S1x1024) (shiftOf μ) (scaleOf μ) := rfl
theorem pay9_eq (h : FVec F S256x1024 .f32) (μ : FVec F S8x1024 .f32) (g : Vec F S1x1024 .f32) :
    k0_pay9 h μ g = modT h (shapeCast S1x1024 g shapeCasts_S1x1024_S1x1024) (shiftOf μ) (scaleOf μ) := rfl
theorem pay13_eq (h a b : FVec F S256x1024 .f32) (g sh sc : FVec F S1x1024 .f32) :
    k0_pay13 h a b g sh sc = rowsT a b (modT h g sh sc) := rfl
theorem pay14_eq (h a b : FVec F S256x1024 .f32) (g sh sc : FVec F S1x1024 .f32) (wg wu : Vec F S1024x1408 .bf16) (wd : Vec F S1408x1024 .bf16) :
    k0_pay14 h a b g sh sc wg wu wd = partT (k0_pay13 h a b g sh sc) wg wu wd := by
  unfold k0_pay14
  simp only [shapeCast_self]
  rfl
theorem pay15_eq (h a b : FVec F S256x1024 .f32) (g sh sc : FVec F S1x1024 .f32) (wg : Vec F S1024x1408 .bf16) :
    k0_pay15 h a b g sh sc wg = siluT (k0_pay13 h a b g sh sc) wg := by
  unfold k0_pay15
  simp only [shapeCast_self]
  rfl
theorem pay16_eq (a : FVec F S768x1024 .bf16) (wg wu : Vec F S1024x1408 .bf16) (wd : Vec F S1408x1024 .bf16) (A : Vec F S768x1024 .f32) :
    k0_pay16 a (siluT a wg) wu wd A = addf A (partT a wg wu wd) := by
  unfold k0_pay16
  simp only [shapeCast_self]
  rfl
theorem pay17_eq (h : FVec F S256x1024 .f32) (μ : FVec F S8x1024 .f32) (f : Vec F S256x1024 .f32) (g : Vec F S1x1024 .f32) :
    k0_pay17 h μ f g = shapeCast S1x256x1024 (addT h f (shapeCast S1x1024 g shapeCasts_S1x1024_S1x1024) (gateOf μ)) shapeCasts_S256x1024_S1x256x1024 := rfl
theorem pay18_eq (h : FVec F S256x1024 .f32) (μ : FVec F S8x1024 .f32) (f : Vec F S256x1024 .f32) (g : Vec F S1x1024 .f32) :
    k0_pay18 h μ f g = shapeCast S1x256x1024 (addT h f (shapeCast S1x1024 g shapeCasts_S1x1024_S1x1024) (gateOf μ)) shapeCasts_S256x1024_S1x256x1024 := rfl
theorem pay19_eq (h : FVec F S256x1024 .f32) (μ : FVec F S8x1024 .f32) (f : Vec F S256x1024 .f32) (g : Vec F S1x1024 .f32) :
    k0_pay1 (k0_pay19 h μ f g) = shapeCast S1x256x1024 (addT h f (shapeCast S1x1024 g shapeCasts_S1x1024_S1x1024) (gateOf μ)) shapeCasts_S256x1024_S1x256x1024 := rfl
theorem pay10_eq (g : Vec F S1x1024 .f32) : k0_pay10 g = shapeCast S1x1024 g shapeCasts_S1x1024_S1x1024 := rfl
end Payloads

section Block
variable (H : Vec F S1x768x1024 .f32) (M : Vec F S3x8x1024 .f32) (g2 g3 : Vec F S1x1024 .f32) (Wg Wu : Vec F S1024x2816 .bf16) (Wd : Vec F S2816x1024 .bf16)
  (o : Fin 3 → Fin 3 → ℕ) (ho : ∀ s, ∀ a, o s a + S1x8x1024.size a ≤ S3x8x1024.size a)

/-- The modulated rows of tile `s`. -/
def inT (s : Fin 3) : FVec F S256x1024 .f32 :=
  modT (tileH H s.val s.isLt) (shapeCast S1x1024 g2 shapeCasts_S1x1024_S1x1024) (shiftOf (modsAt M (o s) (ho s))) (scaleOf (modsAt M (o s) (ho s)))

/-- The modulated rows of the block. -/
def inB : FVec F S768x1024 .bf16 := rowsT (inT H M g2 o ho 0) (inT H M g2 o ho 1) (inT H M g2 o ho 2)

/-- The hidden layer's result on modulated rows, half by half. -/
def accB (a : FVec F S768x1024 .bf16) : FVec F S768x1024 .f32 :=
  addf (partT a (View.ld Wg (Rect.unit (s := S1024x2816) ![0, 0] S1024x1408.size inb_S1024x2816_S1024x1408_0_0))
      (View.ld Wu (Rect.unit (s := S1024x2816) ![0, 0] S1024x1408.size inb_S1024x2816_S1024x1408_0_0))
      (View.ld Wd (Rect.unit (s := S2816x1024) ![0, 0] S1408x1024.size inb_S2816x1024_S1408x1024_0_0)))
    (partT a (View.ld Wg (Rect.unit (s := S1024x2816) ![0, 1408] S1024x1408.size inb_S1024x2816_S1024x1408_0_1408))
      (View.ld Wu (Rect.unit (s := S1024x2816) ![0, 1408] S1024x1408.size inb_S1024x2816_S1024x1408_0_1408))
      (View.ld Wd (Rect.unit (s := S2816x1024) ![1408, 0] S1408x1024.size inb_S2816x1024_S1408x1024_1408_0)))

/-- What tile `s` of the block becomes. -/
def outT (A : FVec F S768x1024 .f32) (s : Fin 3) : FVec F S1x256x1024 .f32 :=
  shapeCast S1x256x1024 (addT (tileH H s.val s.isLt) (tileA A s.val s.isLt) (shapeCast S1x1024 g3 shapeCasts_S1x1024_S1x1024) (gateOf (modsAt M (o s) (ho s))))
    shapeCasts_S256x1024_S1x256x1024

/-- The block a grid point leaves: its three tiles. -/
def outB : Vec F S1x768x1024 .f32 :=
  View.canon (Val := Elt F) (s := S1x768x1024) (e := .f32)
    [⟨Rect.unit (s := S1x768x1024) ![0, 512, 0] S1x256x1024.size inb_S1x768x1024_S1x256x1024_0_512_0, outT H M g3 o ho (accB Wg Wu Wd (inB H M g2 o ho)) 2⟩,
     ⟨Rect.unit (s := S1x768x1024) ![0, 256, 0] S1x256x1024.size inb_S1x768x1024_S1x256x1024_0_256_0, outT H M g3 o ho (accB Wg Wu Wd (inB H M g2 o ho)) 1⟩,
     ⟨Rect.unit (s := S1x768x1024) ![0, 0, 0] S1x256x1024.size inb_S1x768x1024_S1x256x1024_0_0_0, outT H M g3 o ho (accB Wg Wu Wd (inB H M g2 o ho)) 0⟩]
end Block

theorem outs_eq (c : Dev nD) (t : Fin cfg0.N) :
    outsAt0 m c t = outB (iblk m c 0 t) (iblk m c 1 t) (iblk m c 2 t) (iblk m c 6 t) (iblk m c 3 t) (iblk m c 4 t) (iblk m c 5 t)
      (fun s => k0_off1 (grid0.coords t) (BitVec.ofNat 32 s.val)) (fun s => k0_off1_inb (grid0.coords t) s) := by
  unfold outsAt0
  frame_open
  simp (disch := decide) only [↓ View.readCov_skip, ↓ View.readCov_cons_toLoadRect, ↓ View.readCov_fill]
  frame_out
  simp only [pay8_eq, pay9_eq, pay10_eq, pay14_eq, pay15_eq, pay16_eq, pay17_eq, pay18_eq, pay19_eq, pay13_eq]
  rfl

end Cert.Kernel2Ideal.Hand
end
-- ==== Proof.FfnRow.lean ====
/- One row of the dense feed-forward over the extended reals: normalise, modulate, the gated hidden layer, project back,
   normalise again, and add to the row through the gate. -/
module

public import Idealize.ShloMosaic.PureOps.Ideal

@[expose] public section
noncomputable section
namespace Cert.Ffn
open Idealize.ShloMosaic

/-- One over the root of a row's mean square. -/
def invRms (h : Fin 1024 → EReal) : EReal :=
  Ideal.rsqrt (Ideal.div (∑ k, h k * h k) (Ideal.ofBits .f32 0x44800000#32) + Ideal.ofBits .f32 0x358637BD#32)

/-- A row over its root mean square, times its weights. -/
def unitRow (h g : Fin 1024 → EReal) (d : Fin 1024) : EReal := h d * invRms h * g d

/-- The normalised row, scaled by one plus `sc` and shifted by `sh`. -/
def modRow (h g sh sc : Fin 1024 → EReal) (d : Fin 1024) : EReal :=
  unitRow h g d * (Ideal.ofBits .f32 0x3F800000#32 + sc d) + sh d

/-- One gated hidden value: SiLU of the row against a column of `wg`, times the row against the same column of `wu`. -/
def gated {n : ℕ} (a : Fin 1024 → EReal) (wg wu : Fin 1024 → Fin n → EReal) (j : Fin n) : EReal :=
  (∑ k, a k * wg k j) * Ideal.logistic (∑ k, a k * wg k j) * ∑ k, a k * wu k j

/-- What the row `h` becomes when the feed-forward makes `f` of it. -/
def addRow (h f g3 gt : Fin 1024 → EReal) (d : Fin 1024) : EReal := h d + gt d * unitRow f g3 d

/-- The whole feed-forward of one row. -/
def outRow (h g2 g3 sh sc gt : Fin 1024 → EReal) (wg wu : Fin 1024 → Fin 2816 → EReal) (wd : Fin 2816 → Fin 1024 → EReal)
    (d : Fin 1024) : EReal :=
  addRow h (fun e => ∑ j, gated (modRow h g2 sh sc) wg wu j * wd j e) g3 gt d

end Cert.Ffn
end
-- ==== Proof.FfnEntry.lean ====
/- One element of the block a grid point of the feed-forward call leaves: the feed-forward of that element's row. -/
module

public import proofs.«01_k».proof.Proof.FfnBlock
public import proofs.«01_k».proof.Proof.FfnRow
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.Pointwise.Index

@[expose] public section
noncomputable section
namespace Cert.Kernel2Ideal.Hand
open Idealize.ShloMosaic hiding ix0 ix1 ix2 ix3 ix4 eq_ix1 eq_ix2 eq_ix3 eq_ix4
open Cert.Kernel2Ideal Cert.Kernel2Ideal.Gen Idealize.ShloMosaic.ValueIdx Cert.Ffn
open Facts

section Tiles
variable (h f : FVec Ideal S256x1024 .f32) (g sh sc gt : FVec Ideal S1x1024 .f32) (r : Fin 256) (d : Fin 1024)

theorem inv_apply : inv h (ix2 r (0 : Fin 1)) = invRms fun k => h (ix2 r k) := by
  unfold inv
  show Ideal.rsqrt (Ideal.div (shapeCast S256x1 (multiReduction (F := Ideal) .add [1] S256 (mulf h h) 0x00000000#32 reduces_S256x1024_S256 (.inl rfl) rfl)
    shapeCasts_S256_S256x1 (ix2 r (0 : Fin 1))) _ + _) = _
  refine congrArg (fun s => Ideal.rsqrt (Ideal.div s _ + _)) ?_
  rw [shapeCast_a_a1_apply]
  refine (Ideal.multiReduction_add_single _ _ _ _ _ _).trans (Finset.sum_congr rfl fun (k : Fin 1024) _ => ?_)
  rw [show (reduces_S256x1024_S256.lift (ix1 r) k) = ix2 r k from (eq_ix2 _).trans rfl]
  rfl

theorem lanes (x : FVec Ideal S1x1024 .f32) : broadcastTo S256x1024 x broadcasts_S1x1024_S256x1024 (ix2 r d) = x (ix2 (0 : Fin 1) d) :=
  broadcastTo_apply x broadcasts_S1x1024_S256x1024 (ix2 r d) (ix2 (0 : Fin 1) d) (fun a => match a with | ⟨0, _⟩ => rfl | ⟨1, _⟩ => rfl)

theorem rows (x : FVec Ideal S256x1 .f32) : broadcastTo S256x1024 x broadcasts_S256x1_S256x1024 (ix2 r d) = x (ix2 r (0 : Fin 1)) :=
  broadcastTo_apply x broadcasts_S256x1_S256x1024 (ix2 r d) (ix2 r (0 : Fin 1)) (fun a => match a with | ⟨0, _⟩ => rfl | ⟨1, _⟩ => rfl)

theorem modT_apply : modT h g sh sc (ix2 r d)
    = modRow (fun k => h (ix2 r k)) (fun k => g (ix2 (0 : Fin 1) k)) (fun k => sh (ix2 (0 : Fin 1) k)) (fun k => sc (ix2 (0 : Fin 1) k)) d := by
  unfold modT
  show h (ix2 r d) * broadcastTo S256x1024 (inv h) broadcasts_S256x1_S256x1024 (ix2 r d) * broadcastTo S256x1024 g broadcasts_S1x1024_S256x1024 (ix2 r d)
    * broadcastTo S256x1024 _ broadcasts_S1x1024_S256x1024 (ix2 r d) + broadcastTo S256x1024 sh broadcasts_S1x1024_S256x1024 (ix2 r d) = _
  rw [lanes, lanes, lanes, rows, inv_apply]
  rfl

theorem addT_apply : addT h f g gt (ix2 r d)
    = addRow (fun k => h (ix2 r k)) (fun k => f (ix2 r k)) (fun k => g (ix2 (0 : Fin 1) k)) (fun k => gt (ix2 (0 : Fin 1) k)) d := by
  unfold addT
  show h (ix2 r d) + broadcastTo S256x1024 gt broadcasts_S1x1024_S256x1024 (ix2 r d)
    * (f (ix2 r d) * broadcastTo S256x1024 (inv f) broadcasts_S256x1_S256x1024 (ix2 r d) * broadcastTo S256x1024 g broadcasts_S1x1024_S256x1024 (ix2 r d)) = _
  rw [lanes, lanes, rows, inv_apply]
  rfl
end Tiles

/-- Row `r` of tile `s`. -/
def rowIn (s : Fin 3) (r : Fin 256) : Fin 768 := ⟨256 * s.val + r.val, by omega⟩

theorem rowsT_apply (x : Fin 3 → FVec Ideal S256x1024 .f32) (s : Fin 3) (r : Fin 256) (d : Fin 1024) :
    rowsT (x 0) (x 1) (x 2) (ix2 (rowIn s r) d) = x s (ix2 r d) := by
  unfold rowsT
  show concatenate S768x1024 0 [⟨S256x1024, x 0⟩, ⟨S256x1024, x 1⟩, ⟨S256x1024, x 2⟩] concatenates_S256x1024_S256x1024_S256x1024_S768x1024_d0 (ix2 (rowIn s r) d) = _
  have side : ∀ e : Fin 2, e ≠ 0 → ((ix2 r d : S256x1024.Idx) e).val = ((ix2 (rowIn s r) d : S768x1024.Idx) e).val :=
    fun e => match e with | ⟨0, _⟩ => fun hne => absurd rfl hne | ⟨1, _⟩ => fun _ => rfl
  match s with
  | ⟨0, h⟩ =>
    exact concatenate_apply_piece 0 [⟨S256x1024, x 0⟩, ⟨S256x1024, x 1⟩, ⟨S256x1024, x 2⟩] concatenates_S256x1024_S256x1024_S256x1024_S768x1024_d0 _ 0 (by simp) S256x1024 (x 0) rfl rfl 0 rfl (ix2 r d)
      side (show 0 + r.val = 256 * 0 + r.val by omega)
  | ⟨1, h⟩ =>
    exact concatenate_apply_piece 0 [⟨S256x1024, x 0⟩, ⟨S256x1024, x 1⟩, ⟨S256x1024, x 2⟩] concatenates_S256x1024_S256x1024_S256x1024_S768x1024_d0 _ 1 (by simp) S256x1024 (x 1) rfl rfl 256 (by simp) (ix2 r d)
      side (show 256 + r.val = 256 * 1 + r.val by omega)
  | ⟨2, h⟩ =>
    exact concatenate_apply_piece 0 [⟨S256x1024, x 0⟩, ⟨S256x1024, x 1⟩, ⟨S256x1024, x 2⟩] concatenates_S256x1024_S256x1024_S256x1024_S768x1024_d0 _ 2 (by simp) S256x1024 (x 2) rfl rfl 512 (by simp) (ix2 r d)
      side (show 512 + r.val = 256 * 2 + r.val by omega)

section Halves
variable (a : FVec Ideal S768x1024 .bf16) (wg wu : FVec Ideal S1024x1408 .bf16) (wd : FVec Ideal S1408x1024 .bf16) (R : Fin 768)

theorem up_apply (w : FVec Ideal S1024x1408 .bf16) (j : Fin 1408) :
    matmul (F := Ideal) dot_S768x1024_S1024x1408_S768x1408_1_0_0_1_n_n none a w (constant S768x1408 .f32 0x00000000#32) (ix2 R j)
      = ∑ k : Fin 1024, a (ix2 R k) * w (ix2 k j) := by
  refine (Ideal.matmul_constant_zero_apply _ none _ _ _).trans ?_
  rw [← Equiv.sum_comp (contrEquiv1 dot_S768x1024_S1024x1408_S768x1408_1_0_0_1_n_n 1024 rfl rfl).symm]
  refine Finset.sum_congr rfl fun k _ => ?_
  rw [show (dot_S768x1024_S1024x1408_S768x1408_1_0_0_1_n_n.lhsIdx (ix2 R j) ((contrEquiv1 dot_S768x1024_S1024x1408_S768x1408_1_0_0_1_n_n 1024 rfl rfl).symm k)) = ix2 R k from
      (eq_ix2 _).trans rfl,
    show (dot_S768x1024_S1024x1408_S768x1408_1_0_0_1_n_n.rhsIdx (ix2 R j) ((contrEquiv1 dot_S768x1024_S1024x1408_S768x1408_1_0_0_1_n_n 1024 rfl rfl).symm k)) = ix2 k j from
      (eq_ix2 _).trans rfl]

theorem siluT_apply (w : FVec Ideal S1024x1408 .bf16) (j : Fin 1408) : siluT a w (ix2 R j)
    = (∑ k : Fin 1024, a (ix2 R k) * w (ix2 k j)) * Ideal.logistic (∑ k : Fin 1024, a (ix2 R k) * w (ix2 k j)) := by
  rw [← up_apply a R w j]
  rfl

theorem partT_apply (d : Fin 1024) : partT a wg wu wd (ix2 R d)
    = ∑ j : Fin 1408, gated (fun k => a (ix2 R k)) (fun k j => wg (ix2 k j)) (fun k j => wu (ix2 k j)) j * wd (ix2 j d) := by
  unfold partT
  refine (Ideal.matmul_constant_zero_apply _ none _ _ _).trans ?_
  rw [← Equiv.sum_comp (contrEquiv1 dot_S768x1408_S1408x1024_S768x1024_1_0_0_1_n_n 1408 rfl rfl).symm]
  refine Finset.sum_congr rfl fun j _ => ?_
  rw [show (dot_S768x1408_S1408x1024_S768x1024_1_0_0_1_n_n.lhsIdx (ix2 R d) ((contrEquiv1 dot_S768x1408_S1408x1024_S768x1024_1_0_0_1_n_n 1408 rfl rfl).symm j)) = ix2 R j from
      (eq_ix2 _).trans rfl,
    show (dot_S768x1408_S1408x1024_S768x1024_1_0_0_1_n_n.rhsIdx (ix2 R d) ((contrEquiv1 dot_S768x1408_S1408x1024_S768x1024_1_0_0_1_n_n 1408 rfl rfl).symm j)) = ix2 j d from
      (eq_ix2 _).trans rfl]
  refine congrArg (· * _) ?_
  show siluT a wg (ix2 R j) * matmul (F := Ideal) dot_S768x1024_S1024x1408_S768x1408_1_0_0_1_n_n none a wu (constant S768x1408 .f32 0x00000000#32) (ix2 R j) = _
  rw [siluT_apply, up_apply]
  rfl
end Halves

section Block
variable (H : Vec Ideal S1x768x1024 .f32) (M : Vec Ideal S3x8x1024 .f32) (g2 g3 : Vec Ideal S1x1024 .f32) (Wg Wu : Vec Ideal S1024x2816 .bf16)
  (Wd : Vec Ideal S2816x1024 .bf16) (o : Fin 3 → Fin 3 → ℕ) (ho : ∀ s, ∀ a, o s a + S1x8x1024.size a ≤ S3x8x1024.size a)

theorem accB_apply (a : FVec Ideal S768x1024 .bf16) (R : Fin 768) (d : Fin 1024) : accB Wg Wu Wd a (ix2 R d)
    = ∑ j : Fin 2816, gated (fun k => a (ix2 R k)) (fun k j => Wg (ix2 k j)) (fun k j => Wu (ix2 k j)) j * Wd (ix2 j d) := by
  refine Eq.trans ?_ (Fin.sum_univ_add (a := 1408) (b := 1408) _).symm
  unfold accB
  refine congrArg₂ (· + ·) ((partT_apply a _ _ _ R d).trans (Finset.sum_congr rfl fun j _ => ?_)) ((partT_apply a _ _ _ R d).trans (Finset.sum_congr rfl fun j _ => ?_))
  · have up : ∀ (W : Vec Ideal S1024x2816 .bf16) (k : Fin 1024), View.ld W (Rect.unit (s := S1024x2816) ![0, 0] S1024x1408.size inb_S1024x2816_S1024x1408_0_0) (ix2 k j)
        = W (ix2 k (Fin.castAdd 1408 j : Fin (1408 + 1408))) := fun W k => by
      show W _ = W _
      refine congrArg W (funext fun a => Fin.ext ?_)
      match a with
      | ⟨0, _⟩ => show 0 + 1 * k.val = k.val; omega
      | ⟨1, _⟩ => show 0 + 1 * j.val = j.val; omega
    refine congrArg₂ (· * ·) ?_ ?_
    · exact congrArg₂ (fun x y : EReal => x * Ideal.logistic x * y) (Finset.sum_congr rfl fun k _ => congrArg (a (ix2 R k) * ·) (up Wg k))
        (Finset.sum_congr rfl fun k _ => congrArg (a (ix2 R k) * ·) (up Wu k))
    · show Wd _ = Wd _
      refine congrArg Wd (funext fun a => Fin.ext ?_)
      match a with
      | ⟨0, _⟩ => show 0 + 1 * j.val = j.val; omega
      | ⟨1, _⟩ => show 0 + 1 * d.val = d.val; omega
  · have up : ∀ (W : Vec Ideal S1024x2816 .bf16) (k : Fin 1024), View.ld W (Rect.unit (s := S1024x2816) ![0, 1408] S1024x1408.size inb_S1024x2816_S1024x1408_0_1408) (ix2 k j)
        = W (ix2 k (Fin.natAdd 1408 j : Fin (1408 + 1408))) := fun W k => by
      show W _ = W _
      refine congrArg W (funext fun a => Fin.ext ?_)
      match a with
      | ⟨0, _⟩ => show 0 + 1 * k.val = k.val; omega
      | ⟨1, _⟩ => show 1408 + 1 * j.val = 1408 + j.val; omega
    refine congrArg₂ (· * ·) ?_ ?_
    · exact congrArg₂ (fun x y : EReal => x * Ideal.logistic x * y) (Finset.sum_congr rfl fun k _ => congrArg (a (ix2 R k) * ·) (up Wg k))
        (Finset.sum_congr rfl fun k _ => congrArg (a (ix2 R k) * ·) (up Wu k))
    · show Wd _ = Wd _
      refine congrArg Wd (funext fun a => Fin.ext ?_)
      match a with
      | ⟨0, _⟩ => show 1408 + 1 * j.val = 1408 + j.val; omega
      | ⟨1, _⟩ => show 0 + 1 * d.val = d.val; omega

theorem tileH_apply (s : Fin 3) (r : Fin 256) (d : Fin 1024) : tileH H s.val s.isLt (ix2 r d) = H (ix3 (0 : Fin 1) (rowIn s r) d) := by
  unfold tileH
  rw [shapeCast_1ab_ab_apply]
  show H _ = H _
  refine congrArg H (funext fun a => Fin.ext ?_)
  match a with
  | ⟨0, _⟩ => rfl
  | ⟨1, _⟩ => show 256 * s.val + 1 * r.val = 256 * s.val + r.val; omega
  | ⟨2, _⟩ => show 0 + 1 * d.val = d.val; omega

theorem tileA_apply (A : Vec Ideal S768x1024 .f32) (s : Fin 3) (r : Fin 256) (d : Fin 1024) : tileA A s.val s.isLt (ix2 r d) = A (ix2 (rowIn s r) d) := by
  unfold tileA
  show A _ = A _
  refine congrArg A (funext fun a => Fin.ext ?_)
  match a with
  | ⟨0, _⟩ => show 256 * s.val + 1 * r.val = 256 * s.val + r.val; omega
  | ⟨1, _⟩ => show 0 + 1 * d.val = d.val; omega

variable (n : Fin 3 → Fin 3) (hn : ∀ s, o s = ![(n s).val, 0, 0])

include hn in
theorem mods_apply (s : Fin 3) (q : Fin 8) (d : Fin 1024) : modsAt M (o s) (ho s) (ix2 q d) = M (ix3 (n s) q d) := by
  unfold modsAt
  rw [shapeCast_1ab_ab_apply]
  show M _ = M _
  refine congrArg M (funext fun a => Fin.ext ?_)
  match a with
  | ⟨0, _⟩ => show o s 0 + 1 * 0 = (n s).val; rw [hn]; rfl
  | ⟨1, _⟩ => show o s 1 + 1 * q.val = q.val; rw [hn]; show 0 + 1 * q.val = q.val; omega
  | ⟨2, _⟩ => show o s 2 + 1 * d.val = d.val; rw [hn]; show 0 + 1 * d.val = d.val; omega

/-- Element `(r, d)` of tile `s` of the block a grid point leaves. -/
def entry (s : Fin 3) (r : Fin 256) (d : Fin 1024) : EReal :=
  outRow (fun k => H (ix3 (0 : Fin 1) (rowIn s r) k)) (fun k => g2 (ix2 (0 : Fin 1) k)) (fun k => g3 (ix2 (0 : Fin 1) k))
    (fun k => M (ix3 (n s) (3 : Fin 8) k)) (fun k => M (ix3 (n s) (4 : Fin 8) k)) (fun k => M (ix3 (n s) (5 : Fin 8) k))
    (fun k j => Wg (ix2 k j)) (fun k j => Wu (ix2 k j)) (fun j e => Wd (ix2 j e)) d

include hn in
theorem inB_apply (s : Fin 3) (r : Fin 256) (d : Fin 1024) : inB H M g2 o ho (ix2 (rowIn s r) d)
    = modRow (fun k => H (ix3 (0 : Fin 1) (rowIn s r) k)) (fun k => g2 (ix2 (0 : Fin 1) k))
      (fun k => M (ix3 (n s) (3 : Fin 8) k)) (fun k => M (ix3 (n s) (4 : Fin 8) k)) d := by
  unfold inB
  rw [rowsT_apply (fun s => inT H M g2 o ho s) s r d]
  unfold inT
  rw [modT_apply, shapeCast_self]
  have e3 : ∀ k : Fin 1024, shiftOf (modsAt M (o s) (ho s)) (ix2 (0 : Fin 1) k) = M (ix3 (n s) (3 : Fin 8) k) := fun k =>
    (slice2_axis0_apply 3 _ slices_S8x1024_o3_0_S1x1024 (0 : Fin 1) k (3 : Fin 8) rfl).trans (mods_apply M o ho n hn s 3 k)
  have e4 : ∀ k : Fin 1024, scaleOf (modsAt M (o s) (ho s)) (ix2 (0 : Fin 1) k) = M (ix3 (n s) (4 : Fin 8) k) := fun k =>
    (slice2_axis0_apply 4 _ slices_S8x1024_o4_0_S1x1024 (0 : Fin 1) k (4 : Fin 8) rfl).trans (mods_apply M o ho n hn s 4 k)
  simp only [e3, e4, tileH_apply]

include hn in
theorem outT_apply (s : Fin 3) (u : Fin 1) (r : Fin 256) (d : Fin 1024) :
    outT H M g3 o ho (accB Wg Wu Wd (inB H M g2 o ho)) s (ix3 u r d) = entry H M g2 g3 Wg Wu Wd n s r d := by
  unfold outT
  rw [shapeCast_ab_1ab_apply, addT_apply, shapeCast_self]
  have e5 : ∀ k : Fin 1024, gateOf (modsAt M (o s) (ho s)) (ix2 (0 : Fin 1) k) = M (ix3 (n s) (5 : Fin 8) k) := fun k =>
    (slice2_axis0_apply 5 _ slices_S8x1024_o5_0_S1x1024 (0 : Fin 1) k (5 : Fin 8) rfl).trans (mods_apply M o ho n hn s 5 k)
  simp only [e5, tileH_apply, tileA_apply, accB_apply, inB_apply H M g2 o ho n hn]
  rfl

/-- One of three row numbers below 768, as a tile and a row of it. -/
theorem rowIn_split (R : Fin 768) : ∃ s r, R = rowIn s r :=
  ⟨⟨R.val / 256, by omega⟩, ⟨R.val % 256, by omega⟩, Fin.ext (by show R.val = 256 * (R.val / 256) + R.val % 256; omega)⟩

theorem place (s : Fin 3) (r : Fin 256) (d : Fin 1024) (k : ℕ) (hk : k = 256 * s.val)
    (inb : ∀ a, (![0, k, 0] : Fin 3 → ℕ) a + S1x256x1024.size a ≤ S1x768x1024.size a) :
    (ix3 (0 : Fin 1) (rowIn s r) d : S1x768x1024.Idx) = (Rect.unit (s := S1x768x1024) ![0, k, 0] S1x256x1024.size inb).emb (ix3 (0 : Fin 1) r d) := by
  subst hk
  refine funext fun a => Fin.ext ?_
  match a with
  | ⟨0, _⟩ => rfl
  | ⟨1, _⟩ => show 256 * s.val + r.val = 256 * s.val + 1 * r.val; omega
  | ⟨2, _⟩ => show d.val = 0 + 1 * d.val; omega

theorem miss (s : Fin 3) (r : Fin 256) (d : Fin 1024) (k : ℕ) (hk : k + 256 ≤ 256 * s.val ∨ 256 * s.val + 256 ≤ k)
    (inb : ∀ a, (![0, k, 0] : Fin 3 → ℕ) a + S1x256x1024.size a ≤ S1x768x1024.size a) :
    (ix3 (0 : Fin 1) (rowIn s r) d : S1x768x1024.Idx) ∉ (Rect.unit (s := S1x768x1024) ![0, k, 0] S1x256x1024.size inb).set := fun hm => by
  have := (Rect.mem_set_unit.mp hm) (1 : Fin 3)
  have h1 : k ≤ 256 * s.val + r.val ∧ 256 * s.val + r.val < k + 256 := this
  omega

theorem hit_of (ρ : Rect S1x768x1024) (w : ρ.shape.Idx → Elt Ideal .f32) (L : List (View.Piece (Elt Ideal) S1x768x1024 .f32)) (y : S1x768x1024.Idx)
    (x : ρ.shape.Idx) (h : y = ρ.emb x) : View.canon (Val := Elt Ideal) (⟨ρ, w⟩ :: L) y = w x := by
  subst h
  exact View.canon_cons_emb (Val := Elt Ideal) ρ w L x

/-- A store of one tile, read at a row of that tile, and at a row of another. -/
theorem hit_tile (s : Fin 3) (r : Fin 256) (d : Fin 1024) (k : ℕ) (hk : k = 256 * s.val)
    (inb : ∀ a, (![0, k, 0] : Fin 3 → ℕ) a + S1x256x1024.size a ≤ S1x768x1024.size a) (w : FVec Ideal S1x256x1024 .f32)
    (L : List (View.Piece (Elt Ideal) S1x768x1024 .f32)) :
    View.canon (Val := Elt Ideal) (⟨Rect.unit (s := S1x768x1024) ![0, k, 0] S1x256x1024.size inb, w⟩ :: L) (ix3 (0 : Fin 1) (rowIn s r) d)
      = w (ix3 (0 : Fin 1) r d) :=
  hit_of (Rect.unit (s := S1x768x1024) ![0, k, 0] S1x256x1024.size inb) w L _ (ix3 (0 : Fin 1) r d) (place s r d k hk inb)

theorem skip_of (ρ : Rect S1x768x1024) (w : ρ.shape.Idx → Elt Ideal .f32) (L : List (View.Piece (Elt Ideal) S1x768x1024 .f32)) (y : S1x768x1024.Idx)
    (h : y ∉ ρ.set) : View.canon (Val := Elt Ideal) (⟨ρ, w⟩ :: L) y = View.canon (Val := Elt Ideal) L y :=
  View.canon_cons_of_not_mem (Val := Elt Ideal) ⟨ρ, w⟩ L h

theorem skip_tile (s : Fin 3) (r : Fin 256) (d : Fin 1024) (k : ℕ) (hk : k + 256 ≤ 256 * s.val ∨ 256 * s.val + 256 ≤ k)
    (inb : ∀ a, (![0, k, 0] : Fin 3 → ℕ) a + S1x256x1024.size a ≤ S1x768x1024.size a) (w : FVec Ideal S1x256x1024 .f32)
    (L : List (View.Piece (Elt Ideal) S1x768x1024 .f32)) :
    View.canon (Val := Elt Ideal) (⟨Rect.unit (s := S1x768x1024) ![0, k, 0] S1x256x1024.size inb, w⟩ :: L) (ix3 (0 : Fin 1) (rowIn s r) d)
      = View.canon (Val := Elt Ideal) L (ix3 (0 : Fin 1) (rowIn s r) d) :=
  skip_of (Rect.unit (s := S1x768x1024) ![0, k, 0] S1x256x1024.size inb) w L _ (miss s r d k hk inb)

theorem canon_tiles (w : Fin 3 → FVec Ideal S1x256x1024 .f32) (s : Fin 3) (r : Fin 256) (d : Fin 1024) :
    View.canon (Val := Elt Ideal) (s := S1x768x1024) (e := .f32)
      [⟨Rect.unit (s := S1x768x1024) ![0, 512, 0] S1x256x1024.size inb_S1x768x1024_S1x256x1024_0_512_0, w 2⟩,
       ⟨Rect.unit (s := S1x768x1024) ![0, 256, 0] S1x256x1024.size inb_S1x768x1024_S1x256x1024_0_256_0, w 1⟩,
       ⟨Rect.unit (s := S1x768x1024) ![0, 0, 0] S1x256x1024.size inb_S1x768x1024_S1x256x1024_0_0_0, w 0⟩] (ix3 (0 : Fin 1) (rowIn s r) d)
      = w s (ix3 (0 : Fin 1) r d) :=
  match s with
  | ⟨0, h⟩ => (skip_tile ⟨0, h⟩ r d 512 (.inr (show 256 * 0 + 256 ≤ 512 by decide)) _ (w 2) _).trans
      ((skip_tile ⟨0, h⟩ r d 256 (.inr (show 256 * 0 + 256 ≤ 256 by decide)) _ (w 1) _).trans (hit_tile ⟨0, h⟩ r d 0 rfl _ (w 0) _))
  | ⟨1, h⟩ => (skip_tile ⟨1, h⟩ r d 512 (.inr (show 256 * 1 + 256 ≤ 512 by decide)) _ (w 2) _).trans (hit_tile ⟨1, h⟩ r d 256 rfl _ (w 1) _)
  | ⟨2, h⟩ => hit_tile ⟨2, h⟩ r d 512 rfl _ (w 2) _

include hn in
theorem outB_apply (s : Fin 3) (r : Fin 256) (d : Fin 1024) :
    outB H M g2 g3 Wg Wu Wd o ho (ix3 (0 : Fin 1) (rowIn s r) d) = entry H M g2 g3 Wg Wu Wd n s r d := by
  rw [← outT_apply H M g2 g3 Wg Wu Wd o ho n hn s 0 r d]
  unfold outB
  exact canon_tiles (fun s => outT H M g3 o ho (accB Wg Wu Wd (inB H M g2 o ho)) s) s r d
end Block

end Cert.Kernel2Ideal.Hand
end
-- ==== Proof.FfnHost.lean ====
/- The arrays the host hands to the feed-forward call, read at an index. -/
module

public import proofs.«01_k».proof.Proof.Gen.Kernel2Ideal.Frame
public import proofs.«01_k».proof.Proof.Cat
public import Idealize.ShloMosaic.Lib.KernelVsHost
public import Idealize.ShloMosaic.Lib.ValueLayout
public import Idealize.ShloMosaic.Lib.ValueLayoutCasts
public import Idealize.ShloMosaic.Lib.Pipeline.ValueKit

@[expose] public section
noncomputable section
namespace Cert.Kernel2Ideal.Hand
open Idealize.ShloMosaic hiding ix0 ix1 ix2 ix3 ix4 eq_ix1 eq_ix2 eq_ix3 eq_ix4
open Cert.Kernel2Ideal Cert.Kernel2Ideal.Gen Idealize.ShloMosaic.ValueIdx Cert.Attn Idealize.ShloMosaic.TcCoe Idealize.SL.Sem
open Facts

/-- The rows: the latent ones, and behind them the context's. -/
def hArr (x0 : FVec Ideal S2x8192x1024 .f32) (x1 : FVec Ideal S2x256x1024 .f32) : FVec Ideal S2x8448x1024 .f32 :=
  concatenate S2x8448x1024 1 [⟨S2x8192x1024, x0⟩, ⟨S2x256x1024, x1⟩] concatenates_S2x8192x1024_S2x256x1024_S2x8448x1024_d1

def modCat (x2 : FVec Ideal S2x6x1024 .f32) (x3 : FVec Ideal S6x1024 .f32) : FVec Ideal S3x6x1024 .f32 :=
  concatenate S3x6x1024 0 [⟨S1x6x1024, broadcastInDim S1x6x1024 ![1, 2] bcast_S6x1024_S1x6x1024_1_2 x3⟩, ⟨S2x6x1024, x2⟩]
    concatenates_S1x6x1024_S2x6x1024_S3x6x1024_d0

/-- The modulation: the context's in front of the latent ones, padded to eight rows each. -/
def modArr (x2 : FVec Ideal S2x6x1024 .f32) (x3 : FVec Ideal S6x1024 .f32) : FVec Ideal S3x8x1024 .f32 :=
  pad S3x8x1024 ![0, 0, 0] ![0, 2, 0] ![0, 0, 0] (modCat x2 x3) (sitofp .f32 (constantI S_ 32 0#32) : FVec Ideal S_ .f32) pads_S3x6x1024_S3x8x1024_000_020_000 h_S_

theorem modCat_ctx (x2 : FVec Ideal S2x6x1024 .f32) (x3 : FVec Ideal S6x1024 .f32) (n : Fin 3) (hn : n.val = 0) (q : Fin 6) (k : Fin 1024) :
    modCat x2 x3 (ix3 n q k) = x3 (ix2 q k) := by
  unfold modCat
  refine (concatenate_pair_apply_left (s₁ := S1x6x1024) (s₂ := S2x6x1024) 0 _ x2 concatenates_S1x6x1024_S2x6x1024_S3x6x1024_d0 (ix3 n q k) rfl (ix3 (0 : Fin 1) q k)
    (fun e => match e with | ⟨0, _⟩ => hn.symm | ⟨1, _⟩ => rfl | ⟨2, _⟩ => rfl)).trans ?_
  exact congrArg x3 ((eq_ix2 _).trans rfl)

theorem modCat_lat (x2 : FVec Ideal S2x6x1024 .f32) (x3 : FVec Ideal S6x1024 .f32) (n : Fin 3) (b : Fin 2) (hn : n.val = b.val + 1) (q : Fin 6) (k : Fin 1024) :
    modCat x2 x3 (ix3 n q k) = x2 (ix3 b q k) := by
  unfold modCat
  exact concatenate_pair_apply_right (s₁ := S1x6x1024) (s₂ := S2x6x1024) 0 _ x2 concatenates_S1x6x1024_S2x6x1024_S3x6x1024_d0 (ix3 n q k) rfl rfl (ix3 b q k)
    (fun e => match e with | ⟨0, _⟩ => fun hne => absurd rfl hne | ⟨1, _⟩ => fun _ => rfl | ⟨2, _⟩ => fun _ => rfl) hn.symm

theorem modArr_apply (x2 : FVec Ideal S2x6x1024 .f32) (x3 : FVec Ideal S6x1024 .f32) (n : Fin 3) (q8 : Fin 8) (q : Fin 6) (hq : q8.val = q.val) (k : Fin 1024) :
    modArr x2 x3 (ix3 n q8 k) = modCat x2 x3 (ix3 n q k) := by
  unfold modArr
  exact pad_apply_of_inside (s := S3x6x1024) (t := S3x8x1024) ![0, 0, 0] ![0, 2, 0] ![0, 0, 0] (modCat x2 x3) _ pads_S3x6x1024_S3x8x1024_000_020_000 h_S_ (ix3 n q8 k) (ix3 n q k)
    (fun a => match a with
      | ⟨0, _⟩ => by show n.val = 0 + n.val * (0 + 1); omega
      | ⟨1, _⟩ => by show q8.val = 0 + q.val * (0 + 1); omega
      | ⟨2, _⟩ => by show k.val = 0 + k.val * (0 + 1); omega)

theorem flat_1 (x : FVec Ideal S1024 .f32) (k : Fin 1024) : shapeCast S1x1024 x shapeCasts_S1024_S1x1024 (ix2 (0 : Fin 1) k) = x (ix1 k) :=
  shapeCast_a_1a_apply x shapeCasts_S1024_S1x1024 0 k

variable (m : (ℓ : Loc nD τ sig) → Buf (Elt Ideal) ℓ) (c : Dev nD)

theorem V_h : V m c main_v0 = hArr (m ((c : Thread nD τ).loc main_arg0)) (m ((c : Thread nD τ).loc main_arg1)) := by
  unfold V; simp only [hostOps0, hostOps0_1, hostOps0_2, List.flatten_cons, List.flatten_nil, List.append_nil, List.cons_append, List.nil_append]; after_results; rfl
theorem V_mod : V m c main_v3 = modArr (m ((c : Thread nD τ).loc main_arg2)) (m ((c : Thread nD τ).loc main_arg3)) := by
  unfold V; simp only [hostOps0, hostOps0_1, hostOps0_2, List.flatten_cons, List.flatten_nil, List.append_nil, List.cons_append, List.nil_append]; after_results; rfl
theorem V_g2 : V m c main_v4 = (shapeCast S1x1024 (m ((c : Thread nD τ).loc main_arg4) : FVec Ideal S1024 .f32) shapeCasts_S1024_S1x1024 : FVec Ideal S1x1024 .f32) := by
  unfold V; simp only [hostOps0, hostOps0_1, hostOps0_2, List.flatten_cons, List.flatten_nil, List.append_nil, List.cons_append, List.nil_append]; after_results; rfl
theorem V_g3 : V m c main_v8 = (shapeCast S1x1024 (m ((c : Thread nD τ).loc main_arg8) : FVec Ideal S1024 .f32) shapeCasts_S1024_S1x1024 : FVec Ideal S1x1024 .f32) := by
  unfold V; simp only [hostOps0, hostOps0_1, hostOps0_2, List.flatten_cons, List.flatten_nil, List.append_nil, List.cons_append, List.nil_append]; after_results; rfl
theorem V_wg : V m c main_v5 = (truncf .bf16 (m ((c : Thread nD τ).loc main_arg5) : FVec Ideal S1024x2816 .f32) bitsLt_bf16_f32 : FVec Ideal S1024x2816 .bf16) := by
  unfold V; simp only [hostOps0, hostOps0_1, hostOps0_2, List.flatten_cons, List.flatten_nil, List.append_nil, List.cons_append, List.nil_append]; after_results
theorem V_wu : V m c main_v6 = (truncf .bf16 (m ((c : Thread nD τ).loc main_arg6) : FVec Ideal S1024x2816 .f32) bitsLt_bf16_f32 : FVec Ideal S1024x2816 .bf16) := by
  unfold V; simp only [hostOps0, hostOps0_1, hostOps0_2, List.flatten_cons, List.flatten_nil, List.append_nil, List.cons_append, List.nil_append]; after_results
theorem V_wd : V m c main_v7 = (truncf .bf16 (m ((c : Thread nD τ).loc main_arg7) : FVec Ideal S2816x1024 .f32) bitsLt_bf16_f32 : FVec Ideal S2816x1024 .bf16) := by
  unfold V; simp only [hostOps0, hostOps0_1, hostOps0_2, List.flatten_cons, List.flatten_nil, List.append_nil, List.cons_append, List.nil_append]; after_results

end Cert.Kernel2Ideal.Hand
end
-- ==== Proof.FfnRef.lean ====
/- The reference's feed-forward, read at an index: each row by itself, the latent rows and then the context rows. -/
module

public import proofs.«01_k».proof.Proof.Gen.Reference2Ideal.Read
public import proofs.«01_k».proof.Proof.FfnRow
public import proofs.«01_k».proof.Proof.Cat
public import Idealize.ShloMosaic.Lib.IdealHost

@[expose] public section
noncomputable section
namespace Cert.Reference2Ideal.Hand
open Idealize.ShloMosaic hiding ix0 ix1 ix2 ix3 ix4 eq_ix1 eq_ix2 eq_ix3 eq_ix4
open Cert.Reference2Ideal Cert.Reference2Ideal.Gen Cert.Reference2Ideal.Read Idealize.ShloMosaic.ValueIdx Cert.Attn Cert.Ffn Idealize.ShloMosaic.TcCoe
open Facts

variable (x0 : FVec Ideal S2x8192x1024 .f32) (x1 : FVec Ideal S2x256x1024 .f32) (x2 : FVec Ideal S2x6x1024 .f32) (x3 : FVec Ideal S6x1024 .f32)
  (x4 : FVec Ideal S1024 .f32) (x5 x6 : FVec Ideal S1024x2816 .f32) (x7 : FVec Ideal S2816x1024 .f32) (x8 : FVec Ideal S1024 .f32)

section Lat
variable (b : Fin 2) (l : Fin 8192)

theorem val_main_v7_at : val_main_v7 (F := Ideal) x0 (ix3 b l (0 : Fin 1)) = invRms fun k => x0 (ix3 b l k) := by
  rw [val_main_v7_apply, val_main_v6_apply, val_main_v4_apply, val_main_v2_apply, val_main_v1_apply, val_main_v5_apply, val_main_v3_apply, val_main_cst_apply, val_main_cst_0_apply, val_main_cst_1_apply]
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun k _ => ?_)
  rw [show idx_main_v1 (idx_main_v2 (ix3 b l (0 : Fin 1))) k = ix3 b l k from (eq_ix3 _).trans rfl]
  rfl

theorem val_main_v20_at (d : Fin 1024) : val_main_v20 (F := Ideal) x0 x2 x4 (ix3 b l d)
    = modRow (fun k => x0 (ix3 b l k)) (fun k => x4 (ix1 k)) (fun d => x2 (ix3 b (3 : Fin 6) d)) (fun d => x2 (ix3 b (4 : Fin 6) d)) d := by
  rw [val_main_v20_apply, val_main_v17_apply, val_main_v12_apply, val_main_v9_apply, val_main_v8_apply, val_main_v11_apply, val_main_v10_apply, val_main_v16_apply, val_main_v15_apply, val_main_v14_apply, val_main_cst_2_apply, val_main_v13_apply, val_main_v19_apply, val_main_v18_apply]
  rw [show idx_main_v8 (ix3 b l d) = ix3 b l (0 : Fin 1) from (eq_ix3 _).trans rfl, val_main_v7_at,
    show idx_main_v10 (idx_main_v11 (ix3 b l d)) = ix1 d from (eq_ix1 _).trans rfl,
    show idx_main_v13 (idx_main_v16 (ix3 b l d)) = ix3 b (4 : Fin 6) d from (eq_ix3 _).trans rfl,
    show idx_main_v18 (idx_main_v19 (ix3 b l d)) = ix3 b (3 : Fin 6) d from (eq_ix3 _).trans rfl]
  rfl

theorem val_main_v21_at (j : Fin 2816) : val_main_v21 (F := Ideal) x0 x2 x4 x5 (ix3 b l j)
    = ∑ k : Fin 1024, val_main_v20 (F := Ideal) x0 x2 x4 (ix3 b l k) * x5 (ix2 k j) := by
  rw [val_main_v21_apply]
  refine Finset.sum_congr rfl fun k _ => ?_
  rw [show lidx_main_v21 (ix3 b l j) k = ix3 b l k from (eq_ix3 _).trans rfl, show ridx_main_v21 (ix3 b l j) k = ix2 k j from (eq_ix2 _).trans rfl]

theorem val_main_v23_at (j : Fin 2816) : val_main_v23 (F := Ideal) x0 x2 x4 x6 (ix3 b l j)
    = ∑ k : Fin 1024, val_main_v20 (F := Ideal) x0 x2 x4 (ix3 b l k) * x6 (ix2 k j) := by
  rw [val_main_v23_apply]
  refine Finset.sum_congr rfl fun k _ => ?_
  rw [show lidx_main_v23 (ix3 b l j) k = ix3 b l k from (eq_ix3 _).trans rfl, show ridx_main_v23 (ix3 b l j) k = ix2 k j from (eq_ix2 _).trans rfl]

theorem val_main_v24_at (j : Fin 2816) : val_main_v24 (F := Ideal) x0 x2 x4 x5 x6 (ix3 b l j)
    = gated (fun k => val_main_v20 (F := Ideal) x0 x2 x4 (ix3 b l k)) (fun k j => x5 (ix2 k j)) (fun k j => x6 (ix2 k j)) j := by
  rw [val_main_v24_apply, val_main_v22_apply, val_main_call0_v5_apply, val_main_call0_v4_apply, val_main_call0_cst_0_apply, val_main_call0_v3_apply,
    val_main_call0_v2_apply, val_main_call0_cst_apply, val_main_call0_v1_apply, val_main_call0_v0_apply, val_main_v21_at, val_main_v23_at]
  show _ * Ideal.div (Ideal.ofBits .f32 0x3F800000#32) (Ideal.ofBits .f32 0x3F800000#32 + _) * _ = _
  rw [Ideal.ofBits_one_f32]
  rfl

theorem val_main_v25_at (d : Fin 1024) : val_main_v25 (F := Ideal) x0 x2 x4 x5 x6 x7 (ix3 b l d)
    = ∑ j : Fin 2816, val_main_v24 (F := Ideal) x0 x2 x4 x5 x6 (ix3 b l j) * x7 (ix2 j d) := by
  rw [val_main_v25_apply]
  refine Finset.sum_congr rfl fun k _ => ?_
  rw [show lidx_main_v25 (ix3 b l d) k = ix3 b l k from (eq_ix3 _).trans rfl, show ridx_main_v25 (ix3 b l d) k = ix2 k d from (eq_ix2 _).trans rfl]

theorem val_main_v34_at : val_main_v34 (F := Ideal) x0 x2 x4 x5 x6 x7 (ix3 b l (0 : Fin 1))
    = invRms fun k => val_main_v25 (F := Ideal) x0 x2 x4 x5 x6 x7 (ix3 b l k) := by
  rw [val_main_v34_apply, val_main_v33_apply, val_main_v31_apply, val_main_v29_apply, val_main_v28_apply, val_main_v32_apply, val_main_v30_apply, val_main_cst_3_apply, val_main_cst_4_apply, val_main_cst_5_apply]
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun k _ => ?_)
  rw [show idx_main_v28 (idx_main_v29 (ix3 b l (0 : Fin 1))) k = ix3 b l k from (eq_ix3 _).trans rfl, val_main_v27_apply]
  rfl

theorem val_main_v42_at (d : Fin 1024) : val_main_v42 (F := Ideal) x0 x2 x4 x5 x6 x7 x8 (ix3 b l d)
    = addRow (fun k => x0 (ix3 b l k)) (fun k => val_main_v25 (F := Ideal) x0 x2 x4 x5 x6 x7 (ix3 b l k)) (fun k => x8 (ix1 k))
        (fun d => x2 (ix3 b (5 : Fin 6) d)) d := by
  rw [val_main_v42_apply, val_main_v41_apply, val_main_v40_apply, val_main_v26_apply, val_main_v39_apply, val_main_v36_apply, val_main_v35_apply, val_main_v38_apply, val_main_v37_apply]
  rw [show idx_main_v35 (ix3 b l d) = ix3 b l (0 : Fin 1) from (eq_ix3 _).trans rfl, val_main_v34_at,
    show idx_main_v37 (idx_main_v38 (ix3 b l d)) = ix1 d from (eq_ix1 _).trans rfl,
    show idx_main_v26 (idx_main_v40 (ix3 b l d)) = ix3 b (5 : Fin 6) d from (eq_ix3 _).trans rfl]
  rfl

theorem lat_row (d : Fin 1024) : val_main_v42 (F := Ideal) x0 x2 x4 x5 x6 x7 x8 (ix3 b l d)
    = outRow (fun k => x0 (ix3 b l k)) (fun k => x4 (ix1 k)) (fun k => x8 (ix1 k)) (fun d => x2 (ix3 b (3 : Fin 6) d)) (fun d => x2 (ix3 b (4 : Fin 6) d))
        (fun d => x2 (ix3 b (5 : Fin 6) d)) (fun k j => x5 (ix2 k j)) (fun k j => x6 (ix2 k j)) (fun j d => x7 (ix2 j d)) d := by
  rw [val_main_v42_at]
  unfold outRow
  refine congrArg (fun f => addRow _ f _ _ d) (funext fun e => ?_)
  rw [val_main_v25_at]
  refine Finset.sum_congr rfl fun j _ => ?_
  rw [val_main_v24_at]
  refine congrArg (fun a => gated a _ _ j * _) (funext fun k => ?_)
  exact val_main_v20_at x0 x2 x4 b l k
end Lat

section Ctx
variable (b : Fin 2) (l : Fin 256)

theorem val_main_v51_at : val_main_v51 (F := Ideal) x1 (ix3 b l (0 : Fin 1)) = invRms fun k => x1 (ix3 b l k) := by
  rw [val_main_v51_apply, val_main_v50_apply, val_main_v48_apply, val_main_v46_apply, val_main_v45_apply, val_main_v49_apply, val_main_v47_apply, val_main_cst_6_apply, val_main_cst_7_apply, val_main_cst_8_apply]
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun k _ => ?_)
  rw [show idx_main_v45 (idx_main_v46 (ix3 b l (0 : Fin 1))) k = ix3 b l k from (eq_ix3 _).trans rfl]
  rfl

theorem val_main_v64_at (d : Fin 1024) : val_main_v64 (F := Ideal) x1 x3 x4 (ix3 b l d)
    = modRow (fun k => x1 (ix3 b l k)) (fun k => x4 (ix1 k)) (fun d => x3 (ix2 (3 : Fin 6) d)) (fun d => x3 (ix2 (4 : Fin 6) d)) d := by
  rw [val_main_v64_apply, val_main_v61_apply, val_main_v56_apply, val_main_v53_apply, val_main_v52_apply, val_main_v55_apply, val_main_v54_apply, val_main_v60_apply, val_main_v59_apply, val_main_v58_apply, val_main_cst_9_apply, val_main_v57_apply, val_main_v63_apply, val_main_v62_apply, val_main_v43_apply, val_main_v43_apply]
  rw [show idx_main_v52 (ix3 b l d) = ix3 b l (0 : Fin 1) from (eq_ix3 _).trans rfl, val_main_v51_at,
    show idx_main_v54 (idx_main_v55 (ix3 b l d)) = ix1 d from (eq_ix1 _).trans rfl,
    show idx_main_v43 (idx_main_v57 (idx_main_v60 (ix3 b l d))) = ix2 (4 : Fin 6) d from (eq_ix2 _).trans rfl,
    show idx_main_v43 (idx_main_v62 (idx_main_v63 (ix3 b l d))) = ix2 (3 : Fin 6) d from (eq_ix2 _).trans rfl]
  rfl

theorem val_main_v65_at (j : Fin 2816) : val_main_v65 (F := Ideal) x1 x3 x4 x5 (ix3 b l j)
    = ∑ k : Fin 1024, val_main_v64 (F := Ideal) x1 x3 x4 (ix3 b l k) * x5 (ix2 k j) := by
  rw [val_main_v65_apply]
  refine Finset.sum_congr rfl fun k _ => ?_
  rw [show lidx_main_v65 (ix3 b l j) k = ix3 b l k from (eq_ix3 _).trans rfl, show ridx_main_v65 (ix3 b l j) k = ix2 k j from (eq_ix2 _).trans rfl]

theorem val_main_v67_at (j : Fin 2816) : val_main_v67 (F := Ideal) x1 x3 x4 x6 (ix3 b l j)
    = ∑ k : Fin 1024, val_main_v64 (F := Ideal) x1 x3 x4 (ix3 b l k) * x6 (ix2 k j) := by
  rw [val_main_v67_apply]
  refine Finset.sum_congr rfl fun k _ => ?_
  rw [show lidx_main_v67 (ix3 b l j) k = ix3 b l k from (eq_ix3 _).trans rfl, show ridx_main_v67 (ix3 b l j) k = ix2 k j from (eq_ix2 _).trans rfl]

theorem val_main_v68_at (j : Fin 2816) : val_main_v68 (F := Ideal) x1 x3 x4 x5 x6 (ix3 b l j)
    = gated (fun k => val_main_v64 (F := Ideal) x1 x3 x4 (ix3 b l k)) (fun k j => x5 (ix2 k j)) (fun k j => x6 (ix2 k j)) j := by
  rw [val_main_v68_apply, val_main_v66_apply, val_main_call1_v5_apply, val_main_call1_v4_apply, val_main_call1_cst_0_apply, val_main_call1_v3_apply,
    val_main_call1_v2_apply, val_main_call1_cst_apply, val_main_call1_v1_apply, val_main_call1_v0_apply, val_main_v65_at, val_main_v67_at]
  show _ * Ideal.div (Ideal.ofBits .f32 0x3F800000#32) (Ideal.ofBits .f32 0x3F800000#32 + _) * _ = _
  rw [Ideal.ofBits_one_f32]
  rfl

theorem val_main_v69_at (d : Fin 1024) : val_main_v69 (F := Ideal) x1 x3 x4 x5 x6 x7 (ix3 b l d)
    = ∑ j : Fin 2816, val_main_v68 (F := Ideal) x1 x3 x4 x5 x6 (ix3 b l j) * x7 (ix2 j d) := by
  rw [val_main_v69_apply]
  refine Finset.sum_congr rfl fun k _ => ?_
  rw [show lidx_main_v69 (ix3 b l d) k = ix3 b l k from (eq_ix3 _).trans rfl, show ridx_main_v69 (ix3 b l d) k = ix2 k d from (eq_ix2 _).trans rfl]

theorem val_main_v78_at : val_main_v78 (F := Ideal) x1 x3 x4 x5 x6 x7 (ix3 b l (0 : Fin 1))
    = invRms fun k => val_main_v69 (F := Ideal) x1 x3 x4 x5 x6 x7 (ix3 b l k) := by
  rw [val_main_v78_apply, val_main_v77_apply, val_main_v75_apply, val_main_v73_apply, val_main_v72_apply, val_main_v76_apply, val_main_v74_apply, val_main_cst_10_apply, val_main_cst_11_apply, val_main_cst_12_apply]
  show Ideal.rsqrt (Ideal.div (Ideal.ofBits .f32 0x00000000#32 + _) _ + _) = _
  rw [Ideal.ofBits_zero_f32, zero_add]
  refine congrArg (fun s => Ideal.rsqrt (Ideal.div s _ + _)) (Finset.sum_congr rfl fun k _ => ?_)
  rw [show idx_main_v72 (idx_main_v73 (ix3 b l (0 : Fin 1))) k = ix3 b l k from (eq_ix3 _).trans rfl, val_main_v71_apply]
  rfl

theorem val_main_v86_at (d : Fin 1024) : val_main_v86 (F := Ideal) x1 x3 x4 x5 x6 x7 x8 (ix3 b l d)
    = addRow (fun k => x1 (ix3 b l k)) (fun k => val_main_v69 (F := Ideal) x1 x3 x4 x5 x6 x7 (ix3 b l k)) (fun k => x8 (ix1 k))
        (fun d => x3 (ix2 (5 : Fin 6) d)) d := by
  rw [val_main_v86_apply, val_main_v85_apply, val_main_v84_apply, val_main_v70_apply, val_main_v83_apply, val_main_v80_apply, val_main_v79_apply, val_main_v82_apply, val_main_v81_apply, val_main_v43_apply]
  rw [show idx_main_v79 (ix3 b l d) = ix3 b l (0 : Fin 1) from (eq_ix3 _).trans rfl, val_main_v78_at,
    show idx_main_v81 (idx_main_v82 (ix3 b l d)) = ix1 d from (eq_ix1 _).trans rfl,
    show idx_main_v43 (idx_main_v70 (idx_main_v84 (ix3 b l d))) = ix2 (5 : Fin 6) d from (eq_ix2 _).trans rfl]
  rfl

theorem ctx_row (d : Fin 1024) : val_main_v86 (F := Ideal) x1 x3 x4 x5 x6 x7 x8 (ix3 b l d)
    = outRow (fun k => x1 (ix3 b l k)) (fun k => x4 (ix1 k)) (fun k => x8 (ix1 k)) (fun d => x3 (ix2 (3 : Fin 6) d)) (fun d => x3 (ix2 (4 : Fin 6) d))
        (fun d => x3 (ix2 (5 : Fin 6) d)) (fun k j => x5 (ix2 k j)) (fun k j => x6 (ix2 k j)) (fun j d => x7 (ix2 j d)) d := by
  rw [val_main_v86_at]
  unfold outRow
  refine congrArg (fun f => addRow _ f _ _ d) (funext fun e => ?_)
  rw [val_main_v69_at]
  refine Finset.sum_congr rfl fun j _ => ?_
  rw [val_main_v68_at]
  refine congrArg (fun a => gated a _ _ j * _) (funext fun k => ?_)
  exact val_main_v64_at x1 x3 x4 b l k
end Ctx

theorem ref_lat (b : Fin 2) (l : Fin 8192) (r : Fin 8448) (hr : r.val = l.val) (d : Fin 1024) :
    val_main_v87 (F := Ideal) x0 x1 x2 x3 x4 x5 x6 x7 x8 (ix3 b r d) = val_main_v42 (F := Ideal) x0 x2 x4 x5 x6 x7 x8 (ix3 b l d) := by
  unfold val_main_v87
  exact rows3_first _ _ _ b d r l hr

theorem ref_ctx (b : Fin 2) (l : Fin 256) (r : Fin 8448) (hr : r.val = 8192 + l.val) (d : Fin 1024) :
    val_main_v87 (F := Ideal) x0 x1 x2 x3 x4 x5 x6 x7 x8 (ix3 b r d) = val_main_v86 (F := Ideal) x1 x3 x4 x5 x6 x7 x8 (ix3 b l d) := by
  unfold val_main_v87
  exact rows3_second _ _ _ b d r l hr

end Cert.Reference2Ideal.Hand
end
-- ==== Proof.FfnFinal.lean ====
/- The feed-forward call's result is the reference's array: block by block, and the blocks cover the array. -/
module

public import proofs.«01_k».proof.Proof.FfnEntry
public import proofs.«01_k».proof.Proof.FfnHost
public import proofs.«01_k».proof.Proof.FfnRef

@[expose] public section
noncomputable section
namespace Cert.Kernel2Ideal.Hand
open Idealize.ShloMosaic hiding ix0 ix1 ix2 ix3 ix4 eq_ix1 eq_ix2 eq_ix3 eq_ix4
open Cert.Kernel2Ideal Cert.Kernel2Ideal.Gen Idealize.ShloMosaic.ValueIdx Cert.Attn Cert.Ffn Idealize.ShloMosaic.TcCoe Idealize.SL.Sem
open Facts

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])

/-- The batch and the row block of a grid point. -/
def gb (t : Fin cfg0.N) : Fin 2 := ⟨(grid0.coords t 0).val, (grid0.coords t 0).isLt⟩
def gj (t : Fin cfg0.N) : Fin 11 := ⟨(grid0.coords t 1).val, (grid0.coords t 1).isLt⟩
/-- Row `R` of row block `j`. -/
def rowOf (j : Fin 11) (R : Fin 768) : Fin 8448 := ⟨768 * j.val + R.val, by omega⟩

/-- The modulation a tile of a grid point takes: the context's for the last tile, the batch's for the others. -/
def modNo (b j s : ℕ) : ℕ := if 3 * j + s = 32 then 0 else b + 1
def modOf (t : Fin cfg0.N) (s : Fin 3) : Fin 3 :=
  ⟨modNo (gb t).val (gj t).val s.val, by unfold modNo; have := (gb t).isLt; split <;> omega⟩

theorem off : ∀ (t : Fin cfg0.N) (s : Fin 3), k0_off1 (grid0.coords t) (BitVec.ofNat 32 s.val) = ![(modOf t s).val, 0, 0] :=
  (by decide +kernel : ∀ (t : Fin grid0.N) (s : Fin 3), k0_off1 (grid0.coords t) (BitVec.ofNat 32 s.val)
    = ![modNo (grid0.coords t 0).val (grid0.coords t 1).val s.val, 0, 0])

variable (m : (ℓ : Loc nD τ sig) → Buf (Elt Ideal) ℓ) (c : Dev nD) (t : Fin cfg0.N)

theorem h_read (f : FVec Ideal S2x8448x1024 .f32) (R : Fin 768) (d : Fin 1024) :
    ((cfg0.win 0).blk t).view.read (Elt Ideal) f (ix3 (0 : Fin 1) R d) = f (ix3 (gb t) (rowOf (gj t) R) d) := by
  rw [View.read_apply]
  refine congrArg f ((eq_ix3 _).trans ?_)
  refine congr (congr (congrArg ix3 (Fin.ext ?_)) (Fin.ext ?_)) (Fin.ext ?_)
  · blk_simp [index0]; rfl
  · blk_simp [index0]; show (grid0.coords t 1).val * 768 + R.val = 768 * (grid0.coords t 1).val + R.val; omega
  · blk_simp [index0]
theorem h_block (R : Fin 768) (d : Fin 1024) : iblk m c 0 t (ix3 (0 : Fin 1) R d) = V m c main_v0 (ix3 (gb t) (rowOf (gj t) R) d) := by
  unfold iblk
  exact h_read t (V m c main_v0) R d

theorem mod_read (f : FVec Ideal S3x8x1024 .f32) (n : Fin 3) (q : Fin 8) (d : Fin 1024) :
    ((cfg0.win 1).blk t).view.read (Elt Ideal) f (ix3 n q d) = f (ix3 n q d) := by
  rw [View.read_apply]
  refine congrArg f ((eq_ix3 _).trans ?_)
  refine congr (congr (congrArg ix3 (Fin.ext ?_)) (Fin.ext ?_)) (Fin.ext ?_)
  · blk_simp [index1]
  · blk_simp [index1]
  · blk_simp [index1]
theorem mod_block (n : Fin 3) (q : Fin 8) (d : Fin 1024) : iblk m c 1 t (ix3 n q d) = V m c main_v3 (ix3 n q d) := by
  unfold iblk
  exact mod_read t (V m c main_v3) n q d

theorem g2_read (f : FVec Ideal S1x1024 .f32) (i : Fin 1) (d : Fin 1024) : ((cfg0.win 2).blk t).view.read (Elt Ideal) f (ix2 i d) = f (ix2 i d) := by
  rw [View.read_apply]
  refine congrArg f ((eq_ix2 _).trans ?_)
  refine congr (congrArg ix2 (Fin.ext ?_)) (Fin.ext ?_)
  · blk_simp [index2]
  · blk_simp [index2]
theorem g2_block (i : Fin 1) (d : Fin 1024) : iblk m c 2 t (ix2 i d) = V m c main_v4 (ix2 i d) := by
  unfold iblk
  exact g2_read t (V m c main_v4) i d

theorem wg_read (f : FVec Ideal S1024x2816 .bf16) (i : Fin 1024) (d : Fin 2816) : ((cfg0.win 3).blk t).view.read (Elt Ideal) f (ix2 i d) = f (ix2 i d) := by
  rw [View.read_apply]
  refine congrArg f ((eq_ix2 _).trans ?_)
  refine congr (congrArg ix2 (Fin.ext ?_)) (Fin.ext ?_)
  · blk_simp [index3]
  · blk_simp [index3]
theorem wg_block (i : Fin 1024) (d : Fin 2816) : iblk m c 3 t (ix2 i d) = V m c main_v5 (ix2 i d) := by
  unfold iblk
  exact wg_read t (V m c main_v5) i d

theorem wu_read (f : FVec Ideal S1024x2816 .bf16) (i : Fin 1024) (d : Fin 2816) : ((cfg0.win 4).blk t).view.read (Elt Ideal) f (ix2 i d) = f (ix2 i d) := by
  rw [View.read_apply]
  refine congrArg f ((eq_ix2 _).trans ?_)
  refine congr (congrArg ix2 (Fin.ext ?_)) (Fin.ext ?_)
  · blk_simp [index4]
  · blk_simp [index4]
theorem wu_block (i : Fin 1024) (d : Fin 2816) : iblk m c 4 t (ix2 i d) = V m c main_v6 (ix2 i d) := by
  unfold iblk
  exact wu_read t (V m c main_v6) i d

theorem wd_read (f : FVec Ideal S2816x1024 .bf16) (i : Fin 2816) (d : Fin 1024) : ((cfg0.win 5).blk t).view.read (Elt Ideal) f (ix2 i d) = f (ix2 i d) := by
  rw [View.read_apply]
  refine congrArg f ((eq_ix2 _).trans ?_)
  refine congr (congrArg ix2 (Fin.ext ?_)) (Fin.ext ?_)
  · blk_simp [index5]
  · blk_simp [index5]
theorem wd_block (i : Fin 2816) (d : Fin 1024) : iblk m c 5 t (ix2 i d) = V m c main_v7 (ix2 i d) := by
  unfold iblk
  exact wd_read t (V m c main_v7) i d

theorem g3_read (f : FVec Ideal S1x1024 .f32) (i : Fin 1) (d : Fin 1024) : ((cfg0.win 6).blk t).view.read (Elt Ideal) f (ix2 i d) = f (ix2 i d) := by
  rw [View.read_apply]
  refine congrArg f ((eq_ix2 _).trans ?_)
  refine congr (congrArg ix2 (Fin.ext ?_)) (Fin.ext ?_)
  · blk_simp [index6]
  · blk_simp [index6]
theorem g3_block (i : Fin 1) (d : Fin 1024) : iblk m c 6 t (ix2 i d) = V m c main_v8 (ix2 i d) := by
  unfold iblk
  exact g3_read t (V m c main_v8) i d

/-- The reference's array, of the arguments found in memory. -/
def goal : FVec Ideal S2x8448x1024 .f32 :=
  Cert.Reference2Ideal.Read.val_main_v87 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- A block's element, its operands known at every index it reads. -/
theorem entry_of (H : FVec Ideal S1x768x1024 .f32) (M : FVec Ideal S3x8x1024 .f32) (g2 g3 : FVec Ideal S1x1024 .f32) (Wg Wu : FVec Ideal S1024x2816 .bf16)
    (Wd : FVec Ideal S2816x1024 .bf16) (n : Fin 3 → Fin 3) (s : Fin 3) (r : Fin 256) (d : Fin 1024)
    (h a2 a3 sh sc gt : Fin 1024 → Ideal .f32) (wg wu : Fin 1024 → Fin 2816 → Ideal .f32) (wd : Fin 2816 → Fin 1024 → Ideal .f32)
    (e0 : ∀ k, H (ix3 (0 : Fin 1) (rowIn s r) k) = h k) (e2 : ∀ k, g2 (ix2 (0 : Fin 1) k) = a2 k) (e3 : ∀ k, g3 (ix2 (0 : Fin 1) k) = a3 k)
    (m3 : ∀ k, M (ix3 (n s) (3 : Fin 8) k) = sh k) (m4 : ∀ k, M (ix3 (n s) (4 : Fin 8) k) = sc k) (m5 : ∀ k, M (ix3 (n s) (5 : Fin 8) k) = gt k)
    (eg : ∀ k j, Wg (ix2 k j) = wg k j) (eu : ∀ k j, Wu (ix2 k j) = wu k j) (ed : ∀ j k, Wd (ix2 j k) = wd j k) :
    entry H M g2 g3 Wg Wu Wd n s r d = outRow h a2 a3 sh sc gt wg wu wd d := by
  unfold entry
  rw [funext e0, funext e2, funext e3, funext m3, funext m4, funext m5, funext fun k => funext (eg k), funext fun k => funext (eu k), funext fun k => funext (ed k)]

theorem g2_found (k : Fin 1024) : iblk m c 2 t (ix2 (0 : Fin 1) k) = m ((c : Thread nD τ).loc main_arg4) (ix1 k) := by
  rw [g2_block, V_g2]; exact flat_1 _ k
theorem g3_found (k : Fin 1024) : iblk m c 6 t (ix2 (0 : Fin 1) k) = m ((c : Thread nD τ).loc main_arg8) (ix1 k) := by
  rw [g3_block, V_g3]; exact flat_1 _ k
theorem wg_found (k : Fin 1024) (j : Fin 2816) : iblk m c 3 t (ix2 k j) = m ((c : Thread nD τ).loc main_arg5) (ix2 k j) := by
  rw [wg_block, V_wg]; rfl
theorem wu_found (k : Fin 1024) (j : Fin 2816) : iblk m c 4 t (ix2 k j) = m ((c : Thread nD τ).loc main_arg6) (ix2 k j) := by
  rw [wu_block, V_wu]; rfl
theorem wd_found (j : Fin 2816) (k : Fin 1024) : iblk m c 5 t (ix2 j k) = m ((c : Thread nD τ).loc main_arg7) (ix2 j k) := by
  rw [wd_block, V_wd]; rfl

theorem h_lat (R : Fin 768) (l : Fin 8192) (hl : (rowOf (gj t) R).val = l.val) (k : Fin 1024) :
    iblk m c 0 t (ix3 (0 : Fin 1) R k) = m ((c : Thread nD τ).loc main_arg0) (ix3 (gb t) l k) := by
  rw [h_block, V_h]
  exact rows3_first _ _ _ (gb t) k (rowOf (gj t) R) l hl
theorem h_ctx (R : Fin 768) (l : Fin 256) (hl : (rowOf (gj t) R).val = 8192 + l.val) (k : Fin 1024) :
    iblk m c 0 t (ix3 (0 : Fin 1) R k) = m ((c : Thread nD τ).loc main_arg1) (ix3 (gb t) l k) := by
  rw [h_block, V_h]
  exact rows3_second _ _ _ (gb t) k (rowOf (gj t) R) l hl
theorem mod_lat (s : Fin 3) (hs : 3 * (gj t).val + s.val ≠ 32) (q8 : Fin 8) (q : Fin 6) (hq : q8.val = q.val) (k : Fin 1024) :
    iblk m c 1 t (ix3 (modOf t s) q8 k) = m ((c : Thread nD τ).loc main_arg2) (ix3 (gb t) q k) := by
  rw [mod_block, V_mod, modArr_apply _ _ _ q8 q hq]
  exact modCat_lat _ _ _ (gb t) (if_neg hs) q k
theorem mod_ctx (s : Fin 3) (hs : 3 * (gj t).val + s.val = 32) (q8 : Fin 8) (q : Fin 6) (hq : q8.val = q.val) (k : Fin 1024) :
    iblk m c 1 t (ix3 (modOf t s) q8 k) = m ((c : Thread nD τ).loc main_arg3) (ix2 q k) := by
  rw [mod_block, V_mod, modArr_apply _ _ _ q8 q hq]
  exact modCat_ctx _ _ _ (if_pos hs) q k

theorem outs_value (s : Fin 3) (r : Fin 256) (d : Fin 1024) :
    outsAt0 m c t (ix3 (0 : Fin 1) (rowIn s r) d) = goal m c (ix3 (gb t) (rowOf (gj t) (rowIn s r)) d) := by
  rw [outs_eq, outB_apply _ _ _ _ _ _ _ _ _ (modOf t) (off t)]
  have hv : (rowOf (gj t) (rowIn s r)).val = 768 * (gj t).val + (256 * s.val + r.val) := rfl
  have hj := (gj t).isLt
  have hs3 := s.isLt
  have hr := r.isLt
  unfold goal
  by_cases hs : 3 * (gj t).val + s.val = 32
  · have hl : (rowOf (gj t) (rowIn s r)).val = 8192 + r.val := by omega
    rw [Cert.Reference2Ideal.Hand.ref_ctx _ _ _ _ _ _ _ _ _ (gb t) r _ hl, Cert.Reference2Ideal.Hand.ctx_row]
    exact entry_of _ _ _ _ _ _ _ _ s r d _ _ _ _ _ _ _ _ _ (h_ctx m c t _ r hl) (g2_found m c t) (g3_found m c t)
      (mod_ctx m c t s hs 3 3 rfl) (mod_ctx m c t s hs 4 4 rfl) (mod_ctx m c t s hs 5 5 rfl) (wg_found m c t) (wu_found m c t) (wd_found m c t)
  · have hlt : 768 * (gj t).val + (256 * s.val + r.val) < 8192 := by omega
    have hl : (rowOf (gj t) (rowIn s r)).val = (⟨768 * (gj t).val + (256 * s.val + r.val), hlt⟩ : Fin 8192).val := rfl
    rw [Cert.Reference2Ideal.Hand.ref_lat _ _ _ _ _ _ _ _ _ (gb t) ⟨768 * (gj t).val + (256 * s.val + r.val), hlt⟩ _ hl, Cert.Reference2Ideal.Hand.lat_row]
    exact entry_of _ _ _ _ _ _ _ _ s r d _ _ _ _ _ _ _ _ _ (h_lat m c t _ _ hl) (g2_found m c t) (g3_found m c t)
      (mod_lat m c t s hs 3 3 rfl) (mod_lat m c t s hs 4 4 rfl) (mod_lat m c t s hs 5 5 rfl) (wg_found m c t) (wu_found m c t) (wd_found m c t)

/-- What grid point `t` leaves at an index of its block is the reference's array where the block places that index. -/
theorem placed (y : S1x768x1024.Idx) (j : S2x8448x1024.Idx)
    (hj0 : (j 0).val = (grid0.coords t 0).val) (hj1 : (j 1).val = (grid0.coords t 1).val * 768 + (y 1).val) (hj2 : (j 2).val = (y 2).val) :
    outsAt0 m c t y = goal m c j := by
  obtain ⟨s, r, e⟩ := rowIn_split (⟨(y 1).val, (y 1).isLt⟩ : Fin 768)
  have e' : (y 1).val = (rowIn s r).val := congrArg Fin.val e
  have hy : y = ix3 (0 : Fin 1) (rowIn s r) (⟨(y 2).val, (y 2).isLt⟩ : Fin 1024) := by
    refine (eq_ix3 y).trans (congr (congr (congrArg ix3 (Fin.ext ?_)) (Fin.ext ?_)) (Fin.ext rfl))
    · have : (y 0).val < 1 := (y 0).isLt
      show (y 0).val = 0
      omega
    · exact e'
  have hv := outs_value m c t s r (⟨(y 2).val, (y 2).isLt⟩ : Fin 1024)
  rw [← hy] at hv
  refine hv.trans (congrArg (goal m c) (((eq_ix3 j).trans (congr (congr (congrArg ix3 (Fin.ext ?_)) (Fin.ext ?_)) (Fin.ext ?_))).symm))
  · exact hj0
  · show (j 1).val = 768 * (grid0.coords t 1).val + (rowIn s r).val; omega
  · exact hj2

theorem final : (dats m 0 c).arrAt 7 cfg0.N = goal m c := by
  refine (dats m 0 c).arrAt_eq_of_covers 7 _ (by decide +kernel) fun t hf y => ?_
  blk_simp
  rw [after0_7]
  refine placed m c t _ _ ?_ ?_ ?_
  · blk_simp [index7]
  · blk_simp [index7]
  · blk_simp [index7]

end Cert.Kernel2Ideal.Hand
end
-- ==== Proof.FfnClaim.lean ====
/- The feed-forward's value claim. -/
module

public import proofs.«01_k».proof.Defs
public import proofs.«01_k».proof.Proof.FfnFinal
public import proofs.«01_k».proof.Proof.Gen.Reference2Ideal.Run
public import proofs.«01_k».proof.Proof.Gen.Kernel2.Frame
public import Idealize.ShloMosaic.Adequacy
public import Idealize.ShloMosaic.Init

@[expose] public section
noncomputable section
namespace Cert.FfnClaim
open Idealize.ShloMosaic Idealize.ShloMosaic.TcCoe Idealize.SL.Sem Cert.Kernel2Ideal.Hand

theorem frame_kernel : Cert.quiescent_Kernel2 := fun m g _ => Cert.Kernel2.Gen.frame m g
theorem frame_ideal : Cert.quiescent_Kernel2Ideal := fun m g _ => Cert.Kernel2Ideal.Gen.frame m g

theorem frame_reference : Cert.quiescent_Reference2Ideal := fun m g _ =>
  (θ_run Cert.Reference2Ideal.defs _ _).mono (fun r h => ⟨fun c => (h c).2,
      sem_eq_zero_of_no_sems (by decide) r.2⟩)
    (Cert.Reference2Ideal.Value.run (F := Ideal) m g)

theorem algebraic : Cert.algebraic_Kernel2Ideal_Reference2Ideal := by
  intro m g m' g' _ hargs
  refine ⟨fun c => goal m c, (θ_run Cert.Kernel2Ideal.defs _ _).mono (fun r h c => ?_) (Cert.Kernel2Ideal.Value.run_blocks m g),
    (θ_run Cert.Reference2Ideal.defs _ _).mono (fun r h c => ⟨(h c).1.trans ?_, (h c).2⟩) (Cert.Reference2Ideal.Value.run m' g')⟩
  · obtain ⟨h1, h2⟩ := h c
    exact ⟨h1.trans (final m c), h2⟩
  · obtain ⟨e0, e1, e2, e3, e4, e5, e6, e7, e8⟩ := hargs c
    rw [Cert.Reference2Ideal.Read.val_main_v87_eq, e0, e1, e2, e3, e4, e5, e6, e7, e8]
    rfl

end Cert.FfnClaim
end
-- ==== Proof.MoeLaunch.lean ====
/- The launch of the experts' call: its windows, its tables and its scratch buffers, at any tables under which every block
   lies inside its array. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section
set_option maxRecDepth 16384
noncomputable section
namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the run. -/
abbrev MR (F : FTy → Type) : Type := MT nD τ sig Unit (Elt F) ℕ (UR sig nD τ) ℕ

variable (m : (ℓ : Loc nD τ sig) → Buf (Elt F) ℓ) (ρ : Dev nD → PrngReg)

/-- The output window is written back at every tile. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel at a tile, on what the pipeline hands it. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

/-- The buffers when the call starts: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-- The two tables (the tiles' experts and the number of active tiles), as launched. -/
def tbl : pre0.Contents (Elt F) := fun j => V m (0 : Dev nD) (pre0.ref j)
/-- There is one device, so every device holds these tables. -/
theorem V_pre (c : Dev nD) (j : Fin 2) : V m c (pre0.ref j) = tbl m j := by
  obtain rfl : c = 0 := Subsingleton.elim _ _; rfl
/-- Under these tables every block lies inside its array. -/
abbrev Ok : Prop := ok0 (F := F) (tbl m)
/-- The tables with that fact, and the pipeline they make. -/
abbrev adm (hO : Ok m) : (pcfg0 (F := F)).Adm := ⟨tbl m, hO⟩
abbrev cfgM (hO : Ok m) : Pipeline.Cfg sig Λ₀ := cfg0 (adm m hO)

abbrev tbM0_0 : Memref sig .tc .smem S140 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MR F) :=
  M.view.loc (c : Thread nD τ) ↦{fullShare.right} f

/-- The halves of the tables the kernel reads, one by one. -/
theorem PhiT0_eq (c : Dev nD) : (Pipeline.ΦT pre0 (tbl m) c : sProp (MR F)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a tile, read off its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- From the run to the frame: each argument array ends as launched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

abbrev VO0_4 : View sig .tc .vmem S2048x128 .f32 := (Memref.whole cc0_stg4_0 : Memref sig .tc .vmem S2048x128 .f32).view
abbrev ms0_0 (hO : Ok m) (t : Fin (cfgM m hO).N) : Memref sig .tc .vmem S2048x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x1408 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x1408 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1408x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2048x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev scM0_0 : Memref sig .tc .vmem S1024x1408 .bf16 := Memref.whole cc0_scratch0
abbrev scM0_1 : Memref sig .tc .vmem S1024x1408 .bf16 := Memref.whole cc0_scratch1
abbrev scM0_2 : Memref sig .tc .vmem S1408x1024 .bf16 := Memref.whole cc0_scratch2

/-- What the call carries between tiles: the three scratch buffers and the generator register. -/
theorem PhiA0_eq (c : Dev nD) :
    (Pipeline.ΦA spec0 c : sProp (MR F))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel3Ideal.Hand
end
-- ==== Proof.MoeBody.lean ====
/- The experts' kernel at one tile: what it leaves in the output block and in the scratch buffers. -/
module

public import proofs.«01_k».proof.Proof.MoeLaunch
public import Idealize.ShloMosaic.Lib.VecWindow

@[expose] public section
set_option maxRecDepth 16384
noncomputable section
namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The expert of tile `i`, of the tile before it, and the number of tiles in use, as the kernel reads the two tables. -/
def teAt (c : Dev nD) (i : grid0.Coords) (xt0 : TbBuf0 (F := F) c tbM0_0) : BitVec 32 :=
  View.readAt (Elt F) tbM0_0.view (Rect.unit (s := S140) (k0_off1 i) ![1] (k0_off1_inb i)).toLoadRect xt0 (Shape.Idx.first (show 0 < S1.numel by rw [numel1_S1]; exact Nat.one_pos))
def prevAt (c : Dev nD) (i : grid0.Coords) (xt0 : TbBuf0 (F := F) c tbM0_0) : BitVec 32 :=
  View.readAt (Elt F) tbM0_0.view (Rect.unit (s := S140) (k0_off2 i) ![1] (k0_off2_inb i)).toLoadRect xt0 (Shape.Idx.first (show 0 < S1.numel by rw [numel1_S1]; exact Nat.one_pos))
def naAt (c : Dev nD) (xt1 : TbBuf0 (F := F) c tbM0_1) : BitVec 32 :=
  View.readAt (Elt F) tbM0_1.view (Rect.unit (s := S1) ![0] ![1] inb_S1_S1_0).toLoadRect xt1 (Shape.Idx.first (show 0 < S1.numel by rw [numel1_S1]; exact Nat.one_pos))

/-- The condition under which the weights are copied anew: the first tile, or a tile of another expert than the one before. -/
def Fresh (c : Dev nD) (i : grid0.Coords) (xt0 : TbBuf0 (F := F) c tbM0_0) : Prop :=
  Scalar.cmpi .ne (Scalar.extui (Scalar.ori (Scalar.cmpi .eq (BitVec.ofNat 32 (i 0).val) 0#32) (Scalar.cmpi .ne (teAt c i xt0) (prevAt c i xt0))) : BitVec 32) 0#32 = 1#1

open Classical in
/-- What a scratch buffer holds after the tile: the copy `w` if it was made, else what it held. -/
def kept {s : Shape} (p : Prop) (w s0 : Vec F s .bf16) : Vec F s .bf16 := if p then w else s0

/-- A scratch buffer read back after a copy made or left out. -/
theorem kept_read {κ : Kind} {sp : Space} {s : Shape} {arg : Memref sig κ sp s .bf16} (harg : arg.IsWhole) (p : Prop) {inst : Decidable p} {off : Fin s.rank → ℕ}
    (inb : ∀ a, off a + s.size a ≤ s.size a) (w : Vec F s .bf16) (s0 : Vec F s .bf16) :
    arg.view.read (Elt F) (if hc : p then arg.view.writes (Elt F) (harg.unread s0) [⟨Rect.unit (s := s) off s.size inb, w⟩] else harg.unread s0)
      = kept p w s0 := by
  unfold kept
  by_cases h : p
  · rw [dif_pos h, if_pos h]; exact View.read_writes_full arg.view _ inb w []
  · rw [dif_neg h, if_neg h]; exact harg.read_unread _

/-- The entries of `x` a strided load reads. -/
def strip (x : Vec F S2048x128 .f32) (r : LoadRect S2048x128) : r.shape.Idx → Elt F .f32 := fun y => x (r.idx y)

/-- The product of the tile's rows, gathered strip by strip, with the three weights. -/
def accOf (x0 : Vec F S2048x128 .f32) (w0 w1 : Vec F S1024x1408 .bf16) (w2 : Vec F S1408x1024 .bf16) : FVec F S256x1024 .f32 :=
  k0_pay10 (strip x0 (⟨![0, 0], S256x128.size, ![8, 1], inb_S2048x128_S256x128_0_0_s_8_1⟩ : LoadRect S2048x128)) (strip x0 (⟨![1, 0], S256x128.size, ![8, 1], inb_S2048x128_S256x128_1_0_s_8_1⟩ : LoadRect S2048x128)) (strip x0 (⟨![2, 0], S256x128.size, ![8, 1], inb_S2048x128_S256x128_2_0_s_8_1⟩ : LoadRect S2048x128)) (strip x0 (⟨![3, 0], S256x128.size, ![8, 1], inb_S2048x128_S256x128_3_0_s_8_1⟩ : LoadRect S2048x128)) (strip x0 (⟨![4, 0], S256x128.size, ![8, 1], inb_S2048x128_S256x128_4_0_s_8_1⟩ : LoadRect S2048x128)) (strip x0 (⟨![5, 0], S256x128.size, ![8, 1], inb_S2048x128_S256x128_5_0_s_8_1⟩ : LoadRect S2048x128)) (strip x0 (⟨![6, 0], S256x128.size, ![8, 1], inb_S2048x128_S256x128_6_0_s_8_1⟩ : LoadRect S2048x128)) (strip x0 (⟨![7, 0], S256x128.size, ![8, 1], inb_S2048x128_S256x128_7_0_s_8_1⟩ : LoadRect S2048x128)) w0 w1 w2

/-- The eight stores of the product's column strips, the last first. -/
def tileL (acc : FVec F S256x1024 .f32) : List (View.Piece (Elt F) S2048x128 .f32) :=
  [⟨⟨(⟨![7, 0], S256x128.size, ![8, 1], inb_S2048x128_S256x128_7_0_s_8_1⟩ : LoadRect S2048x128), spos_8_1⟩, k0_pay8 acc⟩,
   ⟨⟨(⟨![6, 0], S256x128.size, ![8, 1], inb_S2048x128_S256x128_6_0_s_8_1⟩ : LoadRect S2048x128), spos_8_1⟩, k0_pay7 acc⟩,
   ⟨⟨(⟨![5, 0], S256x128.size, ![8, 1], inb_S2048x128_S256x128_5_0_s_8_1⟩ : LoadRect S2048x128), spos_8_1⟩, k0_pay6 acc⟩,
   ⟨⟨(⟨![4, 0], S256x128.size, ![8, 1], inb_S2048x128_S256x128_4_0_s_8_1⟩ : LoadRect S2048x128), spos_8_1⟩, k0_pay5 acc⟩,
   ⟨⟨(⟨![3, 0], S256x128.size, ![8, 1], inb_S2048x128_S256x128_3_0_s_8_1⟩ : LoadRect S2048x128), spos_8_1⟩, k0_pay4 acc⟩,
   ⟨⟨(⟨![2, 0], S256x128.size, ![8, 1], inb_S2048x128_S256x128_2_0_s_8_1⟩ : LoadRect S2048x128), spos_8_1⟩, extractStridedSlice S256x128 ![0, 256] acc slices_S256x1024_o0_256_S256x128⟩,
   ⟨⟨(⟨![1, 0], S256x128.size, ![8, 1], inb_S2048x128_S256x128_1_0_s_8_1⟩ : LoadRect S2048x128), spos_8_1⟩, extractStridedSlice S256x128 ![0, 128] acc slices_S256x1024_o0_128_S256x128⟩,
   ⟨⟨(⟨![0, 0], S256x128.size, ![8, 1], inb_S2048x128_S256x128_0_0_s_8_1⟩ : LoadRect S2048x128), spos_8_1⟩, extractStridedSlice S256x128 ![0, 0] acc slices_S256x1024_o0_0_S256x128⟩]

/-- Strip `s`'s rows are the rows congruent to `s` modulo eight: together they are all the rows. -/
theorem tile_cover (acc : FVec F S256x1024 .f32) (y : S2048x128.Idx) : ∃ pc ∈ tileL acc, y ∈ pc.1.set := by
  have h0 : (y 0).val < 2048 := (y 0).isLt
  have h1 : (y 1).val < 128 := (y 1).isLt
  have key : ∀ (s : ℕ) (inb) (hs : (y 0).val % 8 = s), y ∈ LoadRect.set (⟨![s, 0], S256x128.size, ![8, 1], inb⟩ : LoadRect S2048x128) := by
    intro s inb hs
    refine (LoadRect.mem_set _).2 fun a => ?_
    match a with
    | ⟨0, _⟩ => exact ⟨(y 0).val / 8, show (y 0).val / 8 < 256 by omega, show (y 0).val = s + 8 * ((y 0).val / 8) by omega⟩
    | ⟨1, _⟩ => exact ⟨(y 1).val, h1, show (y 1).val = 0 + 1 * (y 1).val by omega⟩
  have hlt : (y 0).val % 8 < 8 := Nat.mod_lt _ (by decide)
  unfold tileL
  rcases (by omega : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0) with h | h | h | h | h | h | h | h
  · exact ⟨_, .head _, key 7 _ h⟩
  · exact ⟨_, .tail _ (.head _), key 6 _ h⟩
  · exact ⟨_, .tail _ (.tail _ (.head _)), key 5 _ h⟩
  · exact ⟨_, .tail _ (.tail _ (.tail _ (.head _))), key 4 _ h⟩
  · exact ⟨_, .tail _ (.tail _ (.tail _ (.tail _ (.head _)))), key 3 _ h⟩
  · exact ⟨_, .tail _ (.tail _ (.tail _ (.tail _ (.tail _ (.head _))))), key 2 _ h⟩
  · exact ⟨_, .tail _ (.tail _ (.tail _ (.tail _ (.tail _ (.tail _ (.head _)))))), key 1 _ h⟩
  · exact ⟨_, .tail _ (.tail _ (.tail _ (.tail _ (.tail _ (.tail _ (.tail _ (.head _))))))), key 0 _ h⟩

open Classical in
/-- What the output block holds after the tile: the product's strips of a tile in use, zeros of another. -/
def outVal (p : Prop) (acc : FVec F S256x1024 .f32) : Vec F S2048x128 .f32 :=
  if p then VO0_4.read (Elt F) (VO0_4.writes (Elt F) VO0_4.junk (tileL acc)) else k0_pay9

/-- The output block read back after the stores of a tile in use, or of another. -/
theorem out_read {κ : Kind} {sp : Space} (v : View sig κ sp S2048x128 .f32) (p3 p2 : Prop) {i3 : Decidable p3} {i2 : Decidable p2} (h : p3 ↔ ¬ p2)
    (f4 g : v.ty.Contents (Elt F)) (acc : FVec F S256x1024 .f32) (L L9 : List (View.Piece (Elt F) S2048x128 .f32)) (hL : p2 → L = tileL acc) :
    v.read (Elt F) (if hc : p3 then v.writes (Elt F) g (⟨Rect.unit (s := S2048x128) ![0, 0] S2048x128.size inb_S2048x128_S2048x128_0_0, k0_pay9⟩ :: L9)
      else if hc : p2 then v.writes (Elt F) f4 L else f4) = outVal p2 acc := by
  unfold outVal
  by_cases h2 : p2
  · rw [if_pos h2, dif_neg (fun h3 => h.1 h3 h2), dif_pos h2, hL h2]
    exact View.read_writes_of_cover _ _ _ _ (tileL _) (tile_cover _)
  · rw [if_neg h2, dif_pos (h.2 h2)]
    exact View.read_writes_full v _ inb_S2048x128_S2048x128_0_0 _ L9

/-- Position `i` is in use, as the kernel tests it. -/
def Used (c : Dev nD) (i : grid0.Coords) (xt1 : TbBuf0 (F := F) c tbM0_1) : Prop := k0_cond2 i (naAt c xt1) = 1#1

theorem bit_iff : ∀ b : Bool, Scalar.cmpi .ne (Scalar.extui (BitVec.ofBool b) : BitVec 32) 0#32 = 1#1 ↔ b = true := by decide

theorem cond2_iff (i : grid0.Coords) (v : BitVec 32) : k0_cond2 i v = 1#1 ↔ (BitVec.ofNat 32 (i 0).val).toInt < v.toInt :=
  (bit_iff (decide ((BitVec.ofNat 32 (i 0).val).toInt < v.toInt))).trans decide_eq_true_iff

theorem cond3_iff (i : grid0.Coords) (v : BitVec 32) : k0_cond3 i v = 1#1 ↔ ¬ k0_cond2 i v = 1#1 := by
  rw [cond2_iff, not_lt]
  exact (bit_iff (decide (v.toInt ≤ (BitVec.ofNat 32 (i 0).val).toInt))).trans decide_eq_true_iff

set_option maxHeartbeats 4000000 in
/-- The body's run: the inputs and the tables as they were, each scratch buffer at what it keeps, the output block written. -/
theorem body_run (c : Dev nD) (i : grid0.Coords) (arg3 : Memref sig .tc .vmem S2048x128 .f32) (harg3 : arg3.IsWhole) (arg4 : Memref sig .tc .vmem S1x1x1024x1408 .f32) (harg4 : arg4.IsWhole) (arg5 : Memref sig .tc .vmem S1x1x1024x1408 .f32) (harg5 : arg5.IsWhole) (arg6 : Memref sig .tc .vmem S1x1x1408x1024 .f32) (harg6 : arg6.IsWhole) (arg7 : Memref sig .tc .vmem S2048x128 .f32) (harg7 : arg7.IsWhole) (arg8 : Memref sig .tc .vmem S1024x1408 .bf16) (harg8 : arg8.IsWhole) (arg9 : Memref sig .tc .vmem S1024x1408 .bf16) (harg9 : arg9.IsWhole) (arg10 : Memref sig .tc .vmem S1408x1024 .bf16) (harg10 : arg10.IsWhole)
    (x0 : Vec F S2048x128 .f32) (x1 x2 : Vec F S1x1x1024x1408 .f32) (x3 : Vec F S1x1x1408x1024 .f32) (s0 s1 : Vec F S1024x1408 .bf16) (s2 : Vec F S1408x1024 .bf16)
    (xt0 : TbBuf0 (F := F) c tbM0_0) (xt1 : TbBuf0 (F := F) c tbM0_1) (E : Set ℕ) (K : PUnit → sProp (MR F)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare (outVal (Used c i xt1) (accOf x0 (kept (Fresh c i xt0) (k0_pay1 x1) s0) (kept (Fresh c i xt0) (k0_pay2 x2) s1) (kept (Fresh c i xt0) (k0_pay3 x3) s2)))
                ∗ owns (c : Thread nD τ) arg8 fullShare (kept (Fresh c i xt0) (k0_pay1 x1) s0) ∗ owns (c : Thread nD τ) arg9 fullShare (kept (Fresh c i xt0) (k0_pay2 x2) s1) ∗ owns (c : Thread nD τ) arg10 fullShare (kept (Fresh c i xt0) (k0_pay3 x3) s2)
                ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  sl_exec
  have g1 : body_run.sl.v19 c arg4 harg4 x1 = x1 := by
    unfold body_run.sl.v19; exact (View.readAt_full arg4.view _ inb_S1x1x1024x1408_S1x1x1024x1408_0_0_0_0).trans hf1
  have g2 : body_run.sl.v25 c arg5 harg5 x2 = x2 := by
    unfold body_run.sl.v25; exact (View.readAt_full arg5.view _ inb_S1x1x1024x1408_S1x1x1024x1408_0_0_0_0).trans hf2
  have g3 : body_run.sl.v31 c arg6 harg6 x3 = x3 := by
    unfold body_run.sl.v31; exact (View.readAt_full arg6.view _ inb_S1x1x1408x1024_S1x1x1408x1024_0_0_0_0).trans hf3
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    have e0 : body_run.sl.v29 c i arg4 harg4 arg8 harg8 x1 s0 xt0 = kept (Fresh c i xt0) (k0_pay1 x1) s0 := by
      unfold body_run.sl.v29
      exact (View.readAt_full arg8.view _ inb_S1024x1408_S1024x1408_0_0).trans ((kept_read harg8 (Fresh c i xt0) inb_S1024x1408_S1024x1408_0_0 (k0_pay1 (body_run.sl.v19 c arg4 harg4 x1)) s0).trans (congrArg (fun w => kept (Fresh c i xt0) (k0_pay1 w) s0) g1))
    have e1 : body_run.sl.v33 c i arg5 harg5 arg9 harg9 x2 s1 xt0 = kept (Fresh c i xt0) (k0_pay2 x2) s1 := by
      unfold body_run.sl.v33
      exact (View.readAt_full arg9.view _ inb_S1024x1408_S1024x1408_0_0).trans ((kept_read harg9 (Fresh c i xt0) inb_S1024x1408_S1024x1408_0_0 (k0_pay2 (body_run.sl.v25 c arg5 harg5 x2)) s1).trans (congrArg (fun w => kept (Fresh c i xt0) (k0_pay2 w) s1) g2))
    have e2 : body_run.sl.v37 c i arg6 harg6 arg10 harg10 x3 s2 xt0 = kept (Fresh c i xt0) (k0_pay3 x3) s2 := by
      unfold body_run.sl.v37
      exact (View.readAt_full arg10.view _ inb_S1408x1024_S1408x1024_0_0).trans ((kept_read harg10 (Fresh c i xt0) inb_S1408x1024_S1408x1024_0_0 (k0_pay3 (body_run.sl.v31 c arg6 harg6 x3)) s2).trans (congrArg (fun w => kept (Fresh c i xt0) (k0_pay3 w) s2) g3))
    have l0 : ∀ r : LoadRect S2048x128, View.readAt (Elt F) arg3.view r (harg3.unread x0) = strip x0 r := fun r => congrArg (fun z => strip z r) hf0
    rw [← e0, ← e1, ← e2]
    refine out_read arg7.view _ (k0_cond2 i (naAt c xt1) = 1#1) (cond3_iff i (naAt c xt1)) f4 _ _ _ _ (fun hu => ?_)
    unfold accOf tileL
    simp only [← l0]
    rfl
  isplitl [HS0]
  · iexists _; isplitr; swap; · iexact HS0
    ipureintro
    exact (kept_read harg8 (Fresh c i xt0) inb_S1024x1408_S1024x1408_0_0 (k0_pay1 (body_run.sl.v19 c arg4 harg4 x1)) s0).trans (congrArg (fun w => kept (Fresh c i xt0) (k0_pay1 w) s0) g1)
  isplitl [HS1]
  · iexists _; isplitr; swap; · iexact HS1
    ipureintro
    exact (kept_read harg9 (Fresh c i xt0) inb_S1024x1408_S1024x1408_0_0 (k0_pay2 (body_run.sl.v25 c arg5 harg5 x2)) s1).trans (congrArg (fun w => kept (Fresh c i xt0) (k0_pay2 w) s1) g2)
  isplitl [HS2]
  · iexists _; isplitr; swap; · iexact HS2
    ipureintro
    exact (kept_read harg10 (Fresh c i xt0) inb_S1408x1024_S1408x1024_0_0 (k0_pay3 (body_run.sl.v31 c arg6 harg6 x3)) s2).trans (congrArg (fun w => kept (Fresh c i xt0) (k0_pay3 w) s2) g3)
  isplitl [HT0]; · iexact HT0
  iexact HT1

end Cert.Kernel3Ideal.Hand
end
-- ==== Proof.MoeTables.lean ====
/- What the experts' call reads at a tile: the words of its two tables, and the blocks they select. -/
module

public import proofs.«01_k».proof.Proof.MoeBody
public import Idealize.ShloMosaic.Lib.Pipeline.ValueKit
public import Idealize.ShloMosaic.Lib.Pipeline.ReadBack

@[expose] public section
set_option maxRecDepth 16384
noncomputable section
namespace Cert.Kernel3Ideal.Hand

open Cert.Kernel3Ideal Cert.Kernel3Ideal.Gen
open Idealize.ShloMosaic hiding ix0 ix1 ix2 ix3 ix4 eq_ix1 eq_ix2 eq_ix3 eq_ix4
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem coord : ∀ t : Fin grid0.N, (grid0.coords t 0).val = t.val := by decide +kernel
theorem off1 : ∀ t : Fin grid0.N, k0_off1 (grid0.coords t) 0 = t.val := by decide +kernel
theorem off2 : ∀ t : Fin grid0.N, k0_off2 (grid0.coords t) 0 = t.val - 1 := by decide +kernel
theorem first_word : ∀ t : Fin grid0.N, BitVec.ofNat 32 (grid0.coords t 0).val = 0#32 ↔ t.val = 0 := by decide +kernel
theorem N_eq : grid0.N = 140 := by decide +kernel

/-- The expert the first table names at a tile, and the number of tiles in use. -/
def te (k : Fin 140) : BitVec 32 := tbl m 0 (ix1 k)
def na : BitVec 32 := tbl m 1 (ix1 (0 : Fin 1))
/-- The tile of a grid point. -/
def tl (t : Fin grid0.N) : Fin 140 := ⟨t.val, N_eq ▸ t.isLt⟩

theorem teAt_eq (c : Dev nD) (t : Fin grid0.N) : teAt (F := F) c (grid0.coords t) (tbl m 0) = te m (tl t) := by
  unfold teAt te
  refine congrArg (tbl m 0) ((eq_ix1 _).trans (congrArg ix1 (Fin.ext ?_)))
  exact off1 t
theorem prevAt_eq (c : Dev nD) (t u : Fin grid0.N) (h : u.val + 1 = t.val) : prevAt (F := F) c (grid0.coords t) (tbl m 0) = te m (tl u) := by
  unfold prevAt te
  refine congrArg (tbl m 0) ((eq_ix1 _).trans (congrArg ix1 (Fin.ext ?_)))
  exact (off2 t).trans (show t.val - 1 = u.val by omega)
theorem naAt_eq (c : Dev nD) : naAt (F := F) c (tbl m 1) = na m := by
  unfold naAt na
  exact congrArg (tbl m 1) ((eq_ix1 _).trans (congrArg ix1 (Fin.ext rfl)))

theorem fresh_bits : ∀ a b : Bool, Scalar.cmpi .ne (Scalar.extui (Scalar.ori (BitVec.ofBool a) (BitVec.ofBool b)) : BitVec 32) 0#32 = 1#1 ↔ (a = true ∨ b = true) := by decide

/-- The weights are copied anew unless the tile before exists and belongs to the same expert. -/
theorem fresh_iff (c : Dev nD) (i : grid0.Coords) (xt0 : TbBuf0 (F := F) c tbM0_0) :
    Fresh c i xt0 ↔ (BitVec.ofNat 32 (i 0).val = 0#32 ∨ teAt c i xt0 ≠ prevAt c i xt0) := by
  refine (fresh_bits (BitVec.ofNat 32 (i 0).val == 0#32) (teAt c i xt0 != prevAt c i xt0)).trans ?_
  rw [beq_iff_eq, bne_iff_ne]

theorem index1 (hO : Ok m) (t : Fin (cfgM m hO).N) : @Eq (Fin 4 → ℕ) (((cfgM m hO).win 1).index t) ![0, (te m (tl t)).toNat, 0, 0] := by
  refine congrArg (fun w : BitVec 32 => (![0, w.toNat, 0, 0] : Fin 4 → ℕ)) ?_
  exact congrArg (tbl m 0) ((eq_ix1 _).trans (congrArg ix1 (Fin.ext (off1 t))))
theorem index2 (hO : Ok m) (t : Fin (cfgM m hO).N) : @Eq (Fin 4 → ℕ) (((cfgM m hO).win 2).index t) ![0, (te m (tl t)).toNat, 0, 0] := index1 m hO t
theorem index3 (hO : Ok m) (t : Fin (cfgM m hO).N) : @Eq (Fin 4 → ℕ) (((cfgM m hO).win 3).index t) ![0, (te m (tl t)).toNat, 0, 0] := index1 m hO t

theorem trans1 (t : Fin grid0.N) : cc0_transform_1 k0_off1_inb numel1_S1 (tbl m) (grid0.coords t) = ![0, (te m (tl t)).toNat, 0, 0] := by
  refine congrArg (fun w : BitVec 32 => (![0, w.toNat, 0, 0] : Fin 4 → ℕ)) ?_
  exact congrArg (tbl m 0) ((eq_ix1 _).trans (congrArg ix1 (Fin.ext (off1 t))))

theorem te_lt (hO : Ok m) (k : Fin 140) : (te m k).toNat < 8 := by
  have hk : k.val < grid0.N := by rw [N_eq]; exact k.isLt
  obtain ⟨h, -⟩ := hO.2.1 (grid0.coords ⟨k.val, hk⟩)
  have h1 := h 1
  rw [trans1] at h1
  have h2 : ((te m k).toNat + 1) * 1 ≤ 8 := h1
  omega
/-- The expert of a tile as an index. -/
def teF (hO : Ok m) (k : Fin 140) : Fin 8 := ⟨(te m k).toNat, te_lt m hO k⟩

theorem at4 (f g : Fin 4 → ℕ) (h : f = g) (a : Fin 4) : f a = g a := congrFun h a
theorem fin0 (p q n : ℕ) (h : p = 0) : p * n + q = q := by rw [h, Nat.zero_mul, Nat.zero_add]

theorem iblk1 (hO : Ok m) (c : Dev nD) (t : Fin (cfgM m hO).N) (i j : Fin 1) (a : Fin 1024) (b : Fin 1408) :
    iblk m hO c 1 t (ix4 i j a b) = V m c main_arg3 (ix4 (0 : Fin 2) (teF m hO (tl t)) a b) := by
  unfold iblk
  refine (View.read_apply _ _).trans ?_
  refine congrArg (V m c main_arg3) ((eq_ix4 _).trans ?_)
  refine congr (congr (congr (congrArg ix4 (Fin.ext ?_)) (Fin.ext ?_)) (Fin.ext ?_)) (Fin.ext ?_)
  · blk_simp [index1]; exact at4 _ _ (index1 m hO t) 0
  · blk_simp [index1]; exact at4 _ _ (index1 m hO t) 1
  · blk_simp [index1]; exact fin0 _ _ _ (at4 _ _ (index1 m hO t) 2)
  · blk_simp [index1]; exact fin0 _ _ _ (at4 _ _ (index1 m hO t) 3)
theorem iblk2 (hO : Ok m) (c : Dev nD) (t : Fin (cfgM m hO).N) (i j : Fin 1) (a : Fin 1024) (b : Fin 1408) :
    iblk m hO c 2 t (ix4 i j a b) = V m c main_arg4 (ix4 (0 : Fin 2) (teF m hO (tl t)) a b) := by
  unfold iblk
  refine (View.read_apply _ _).trans ?_
  refine congrArg (V m c main_arg4) ((eq_ix4 _).trans ?_)
  refine congr (congr (congr (congrArg ix4 (Fin.ext ?_)) (Fin.ext ?_)) (Fin.ext ?_)) (Fin.ext ?_)
  · blk_simp [index2]; exact at4 _ _ (index2 m hO t) 0
  · blk_simp [index2]; exact at4 _ _ (index2 m hO t) 1
  · blk_simp [index2]; exact fin0 _ _ _ (at4 _ _ (index2 m hO t) 2)
  · blk_simp [index2]; exact fin0 _ _ _ (at4 _ _ (index2 m hO t) 3)
theorem iblk3 (hO : Ok m) (c : Dev nD) (t : Fin (cfgM m hO).N) (i j : Fin 1) (a : Fin 1408) (b : Fin 1024) :
    iblk m hO c 3 t (ix4 i j a b) = V m c main_arg5 (ix4 (0 : Fin 2) (teF m hO (tl t)) a b) := by
  unfold iblk
  refine (View.read_apply _ _).trans ?_
  refine congrArg (V m c main_arg5) ((eq_ix4 _).trans ?_)
  refine congr (congr (congr (congrArg ix4 (Fin.ext ?_)) (Fin.ext ?_)) (Fin.ext ?_)) (Fin.ext ?_)
  · blk_simp [index3]; exact at4 _ _ (index3 m hO t) 0
  · blk_simp [index3]; exact at4 _ _ (index3 m hO t) 1
  · blk_simp [index3]; exact fin0 _ _ _ (at4 _ _ (index3 m hO t) 2)
  · blk_simp [index3]; exact fin0 _ _ _ (at4 _ _ (index3 m hO t) 3)

theorem teF_congr (hO : Ok m) {k l : Fin 140} (h : te m k = te m l) : teF m hO k = teF m hO l := by
  apply Fin.ext
  show (te m k).toNat = (te m l).toNat
  rw [h]

theorem extA (f g : Vec F S1x1x1024x1408 .f32) (h : ∀ (i j : Fin 1) (a : Fin 1024) (b : Fin 1408), f (ix4 i j a b) = g (ix4 i j a b)) : f = g :=
  funext fun x => by rw [eq_ix4 x]; exact h _ _ _ _
theorem extB (f g : Vec F S1x1x1408x1024 .f32) (h : ∀ (i j : Fin 1) (a : Fin 1408) (b : Fin 1024), f (ix4 i j a b) = g (ix4 i j a b)) : f = g :=
  funext fun x => by rw [eq_ix4 x]; exact h _ _ _ _

/-- Two tiles of one expert read the same weights. -/
theorem same1 (hO : Ok m) (c : Dev nD) (t u : Fin (cfgM m hO).N) (h : te m (tl t) = te m (tl u)) :
    (iblk m hO c 1 t : Vec F S1x1x1024x1408 .f32) = iblk m hO c 1 u :=
  extA _ _ fun i j a b => (iblk1 m hO c t i j a b).trans ((congrArg (fun e => V m c main_arg3 (ix4 (0 : Fin 2) e a b))
    (teF_congr m hO h)).trans (iblk1 m hO c u i j a b).symm)
theorem same2 (hO : Ok m) (c : Dev nD) (t u : Fin (cfgM m hO).N) (h : te m (tl t) = te m (tl u)) :
    (iblk m hO c 2 t : Vec F S1x1x1024x1408 .f32) = iblk m hO c 2 u :=
  extA _ _ fun i j a b => (iblk2 m hO c t i j a b).trans ((congrArg (fun e => V m c main_arg4 (ix4 (0 : Fin 2) e a b))
    (teF_congr m hO h)).trans (iblk2 m hO c u i j a b).symm)
theorem same3 (hO : Ok m) (c : Dev nD) (t u : Fin (cfgM m hO).N) (h : te m (tl t) = te m (tl u)) :
    (iblk m hO c 3 t : Vec F S1x1x1408x1024 .f32) = iblk m hO c 3 u :=
  extB _ _ fun i j a b => (iblk3 m hO c t i j a b).trans ((congrArg (fun e => V m c main_arg5 (ix4 (0 : Fin 2) e a b))
    (teF_congr m hO h)).trans (iblk3 m hO c u i j a b).symm)

/-- Where the weights are not copied anew, the tile before is of the same expert. -/
theorem stale (c : Dev nD) (t : Fin grid0.N) (h : ¬ Fresh c (grid0.coords t) (tbl m 0)) :
    ∃ u : Fin grid0.N, u.val + 1 = t.val ∧ te m (tl t) = te m (tl u) := by
  obtain ⟨h0, h1⟩ := not_or.1 (fun h' => h ((fresh_iff c (grid0.coords t) (tbl m 0)).2 h'))
  have h2 := not_not.1 h1
  have ht : ¬ t.val = 0 := fun e => h0 ((first_word t).2 e)
  have hu : t.val - 1 + 1 = t.val := by omega
  refine ⟨⟨t.val - 1, by omega⟩, hu, ?_⟩
  exact (teAt_eq m c t).symm.trans (h2.trans (prevAt_eq m c t _ hu))

end Cert.Kernel3Ideal.Hand
end
-- ==== Proof.MoeFrame.lean ====
/- The experts' call: its run from any memory, the argument arrays unchanged and every counter at zero. -/
module

public import proofs.«01_k».proof.Proof.MoeTables

@[expose] public section
set_option maxRecDepth 16384
noncomputable section
namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The weights a tile's expert has, as the scratch buffers hold them. -/
def w0 (hO : Ok m) (c : Dev nD) (t : Fin (cfgM m hO).N) : Vec F S1024x1408 .bf16 := k0_pay1 (iblk m hO c 1 t)
def w1 (hO : Ok m) (c : Dev nD) (t : Fin (cfgM m hO).N) : Vec F S1024x1408 .bf16 := k0_pay2 (iblk m hO c 2 t)
def w2 (hO : Ok m) (c : Dev nD) (t : Fin (cfgM m hO).N) : Vec F S1408x1024 .bf16 := k0_pay3 (iblk m hO c 3 t)

/-- The output block after a tile. -/
def outsAt (hO : Ok m) (c : Dev nD) (t : Fin (cfgM m hO).N) : Vec F S2048x128 .f32 :=
  outVal (Used (F := F) c (grid0.coords t) (tbl m 1)) (accOf (iblk m hO c 0 t) (w0 m hO c t) (w1 m hO c t) (w2 m hO c t))

/-- The scratch buffers hold the weights of the tile before. -/
def Held (hO : Ok m) (c : Dev nD) (n : ℕ) (s0 s1 : Vec F S1024x1408 .bf16) (s2 : Vec F S1408x1024 .bf16) : Prop :=
  ∀ u : Fin (cfgM m hO).N, u.val + 1 = n → s0 = w0 m hO c u ∧ s1 = w1 m hO c u ∧ s2 = w2 m hO c u

/-- What is carried between tiles. -/
def Car (hO : Ok m) (c : Dev nD) (n : ℕ) : sProp (MR F) :=
  iprop(∃ s0 s1 s2, ⌜Held m hO c n s0 s1 s2⌝ ∗ owns (c : Thread nD τ) scM0_0 fullShare s0 ∗ owns (c : Thread nD τ) scM0_1 fullShare s1
    ∗ owns (c : Thread nD τ) scM0_2 fullShare s2 ∗ (∃ r, prngReg c r) ∗ Pipeline.ΦT pre0 (tbl m) c)

/-- The pipeline's data: inputs at their blocks, the output at the tile's result, the weights carried. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outsAt m hO c t
  Φ t := Car m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outsAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The copies the scratch buffers keep after a tile are its expert's weights. -/
theorem held_step (hO : Ok m) (c : Dev nD) (t : Fin (cfgM m hO).N) (s0 s1 : Vec F S1024x1408 .bf16) (s2 : Vec F S1408x1024 .bf16)
    (h : Held m hO c t.val s0 s1 s2) :
    kept (Fresh (F := F) c (grid0.coords t) (tbl m 0)) (k0_pay1 (iblk m hO c 1 t)) s0 = w0 m hO c t
    ∧ kept (Fresh (F := F) c (grid0.coords t) (tbl m 0)) (k0_pay2 (iblk m hO c 2 t)) s1 = w1 m hO c t
    ∧ kept (Fresh (F := F) c (grid0.coords t) (tbl m 0)) (k0_pay3 (iblk m hO c 3 t)) s2 = w2 m hO c t := by
  unfold kept
  by_cases hf : Fresh (F := F) c (grid0.coords t) (tbl m 0)
  · exact ⟨if_pos hf, if_pos hf, if_pos hf⟩
  · obtain ⟨u, hu, he⟩ := stale m c t hf
    obtain ⟨h0, h1, h2⟩ := h u hu
    exact ⟨(if_neg hf).trans (h0.trans (congrArg k0_pay1 (same1 m hO c t u he).symm)),
      (if_neg hf).trans (h1.trans (congrArg k0_pay2 (same2 m hO c t u he).symm)),
      (if_neg hf).trans (h2.trans (congrArg k0_pay3 (same3 m hO c t u he).symm))⟩

def bodyPre (hO : Ok m) (c : Dev nD) (t : Fin (cfgM m hO).N) : sProp (MR F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp (MR F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 1600000 in
/-- The body at any tile. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.castSucc = Car m hO c t.val from rfl, show (dats m hO 0 c).Φ t.succ = Car m hO c (t.val + 1) from rfl]
  unfold Car
  rw [PhiT0_eq]
  iintro ⟨⟨%s0, %s1, %s2, %hs, HS0, HS1, HS2, Hg, ⟨HT0, HT1⟩⟩, Ho, ⟨%d0, H0⟩, ⟨%d1, H1⟩, ⟨%d2, H2⟩, ⟨%d3, H3⟩, ⟨%d4, H4⟩⟩
  obtain ⟨e0, e1, e2⟩ := held_step m hO c t s0 s1 s2 hs
  iapply (body_run c (grid0.coords t) _ _ _ _ _ _ _ _ _ _ _ _ _ _ _ _ (iblk m hO c 0 t) (iblk m hO c 1 t) (iblk m hO c 2 t) (iblk m hO c 3 t) s0 s1 s2 (tbl m 0) (tbl m 1) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  rw [e0, e1, e2]
  iintro ⟨H0, H1, H2, H3, H4, HS0, HS1, HS2, HT0, HT1⟩
  isplitl [HS0 HS1 HS2 Hg HT0 HT1]
  · iexists _, _, _
    isplitr
    swap
    · isplitl [HS0]; · iexact HS0
      isplitl [HS1]; · iexact HS1
      isplitl [HS2]; · iexact HS2
      isplitl [Hg]; · iexact Hg
      isplitl [HT0]; · iexact HT0
      iexact HT1
    · ipureintro
      intro u hu
      obtain rfl : u = t := Fin.ext (Nat.succ.inj hu)
      exact ⟨rfl, rfl, rfl⟩
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No tile leaves the output block unwritten. -/
theorem busy (hO : Ok m) (i : grid0.Coords) : (cfgM m hO).idle 4 i = false := by
  show (!(k0_cond2 i ((tbl m).atD 1 ![0]) == 1#1) && !(k0_cond3 i ((tbl m).atD 1 ![0]) == 1#1)) = false
  by_cases h : k0_cond2 i ((tbl m).atD 1 ![0]) = 1#1
  · simp [h]
  · simp [(cond3_iff i _).2 h]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have e : (dats m hO 0 c).leavesExact 4 t = owns c.tc (ms0_4 m hO t) fullShare ((dats m hO 0 c).after 4 t) := by
    unfold Dat.leavesExact; rw [busy m hO]; rfl
  show bodyPost m hO c t ⊢ iprop(_ ∗ _ ∗ _ ∗ _ ∗ _ ∗ _ ∗ (dats m hO 0 c).leavesExact 4 t)
  rw [e]
  exact .rfl

theorem start (hO : Ok m) (c : Dev nD) : iprop(Pipeline.ΦA spec0 c ∗ Pipeline.ΦT pre0 (tbl m) c) ⊢ Car m hO c 0 := by
  rw [PhiA0_eq]; unfold Car
  iintro ⟨⟨⟨⟨%d0, H0⟩, ⟨%d1, H1⟩, ⟨%d2, H2⟩⟩, Hg⟩, HT⟩
  iexists d0, d1, d2
  isplitr
  · ipureintro; intro u hu; exact absurd hu (Nat.succ_ne_zero _)
  isplitl [H0]; · iexact H0
  isplitl [H1]; · iexact H1
  isplitl [H2]; · iexact H2
  isplitl [Hg]; · iexact Hg
  iexact HT

theorem stop (hO : Ok m) (c : Dev nD) (n : ℕ) : Car m hO c n ⊢ Pipeline.ΦA spec0 c := by
  rw [PhiA0_eq]; unfold Car
  iintro ⟨%s0, %s1, %s2, -, H0, H1, H2, Hg, -⟩
  isplitl [H0 H1 H2]
  · isplitl [H0]; · iexists _; iexact H0
    isplitl [H1]; · iexists _; iexact H1
    iexists _; iexact H2
  iexact Hg

set_option backward.isDefEq.respectTransparency.types false in
/-- The call runs to the end from any memory with zero counters: each array ends at what the tiles' blocks make it. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => start m hO c) (hout := fun c => stop m hO c _)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO)

/-- The frame: the argument arrays unchanged, every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO)) ((θ_run defs _ _).mono (fun _ h => h.2) (run_quiescent m ρ hO))

end Cert.Kernel3Ideal.Hand
end
-- ==== Proof.MoeSame.lean ====
/- The experts' program and the one read over the extended reals have one text: their body tables and their mains are
   equal over any float values. -/
module

public import proofs.«01_k».proof.Proof.Gen.Kernel3
public import proofs.«01_k».proof.Proof.Gen.Kernel3Ideal.Skeleton

@[expose] public section
noncomputable section
namespace Cert.MoeSame
open Idealize.ShloMosaic

attribute [local instance] Cert.Kernel3.Gen.facts Cert.Kernel3Ideal.Gen.facts
variable {F : FTy → Type} [FloatOps F]

theorem same_body : (Cert.Kernel3.cc0_moe_experts (F := F)) = Cert.Kernel3Ideal.cc0_moe_experts (F := F) := rfl
theorem same_pipeline : (Cert.Kernel3.pcfg0 (F := F)) = Cert.Kernel3Ideal.pcfg0 (F := F) := rfl

theorem same_defs₀ : Cert.Kernel3.defs₀ (F := F) = Cert.Kernel3Ideal.defs₀ (F := F) := by
  unfold Cert.Kernel3.defs₀ Cert.Kernel3Ideal.defs₀
  refine congrArg Defs.onTc (funext fun l => funext fun a => ?_)
  obtain ⟨l, hl⟩ := l
  match l, hl with
  | 0, _ => obtain ⟨t, s⟩ := a; rfl
  | n + 1, h => exact absurd h (Nat.not_lt.2 (Nat.le_add_left _ _))

theorem same_defs : Cert.Kernel3.defs (F := F) = Cert.Kernel3Ideal.defs (F := F) := by
  unfold Cert.Kernel3.defs Cert.Kernel3Ideal.defs
  exact congrArg (Pipeline.defs Cert.Kernel3Ideal.pcfgs) same_defs₀

theorem same_main : Cert.Kernel3.main (F := F) = Cert.Kernel3Ideal.main (F := F) := rfl

end Cert.MoeSame
end
-- ==== Proof.MoeClaim.lean ====
/- The experts' call: what its precondition says of the two tables, and its frames. -/
module

public import proofs.«01_k».proof.Defs
public import proofs.«01_k».proof.Proof.MoeFrame
public import proofs.«01_k».proof.Proof.MoeSame
public import proofs.«01_k».proof.Proof.Gen.Pre_in_range
public import proofs.«01_k».proof.Proof.Gen.Reference3Ideal.Run
public import Idealize.ShloMosaic.Lib.StableHlo.Predicate
public import Idealize.ShloMosaic.Adequacy
public import Idealize.ShloMosaic.Init

@[expose] public section
noncomputable section
namespace Cert.MoeClaim
open Idealize.ShloMosaic hiding ix0 ix1 ix2 ix3 ix4 eq_ix1 eq_ix2 eq_ix3 eq_ix4
open Idealize.ShloMosaic.ValueIdx Idealize.ShloMosaic.TcCoe Idealize.SL.Sem Cert.Kernel3Ideal Cert.Kernel3Ideal.Gen Cert.Kernel3Ideal.Hand

theorem and_bits (p q : Bool) (h : IntOp.andi (BitVec.ofBool p) (BitVec.ofBool q) = 1#1) : p = true ∧ q = true := by
  revert h; revert p q; decide

theorem bit_true (p : Bool) (h : BitVec.ofBool p = 1#1) : p = true := by
  revert h; revert p; decide

theorem range_of_bits (x : BitVec 32) (h : IntOp.andi (IntOp.cmpi .sge x 0#32) (IntOp.cmpi .slt x 8#32) = 1#1) : x.toNat < 8 := by
  obtain ⟨h1, h2⟩ := and_bits _ _ h
  have a : (0 : ℤ) ≤ x.toInt := by simpa [BitVec.sle] using h1
  have b : x.toInt < 8 := by simpa [BitVec.slt] using h2
  rw [BitVec.toInt_eq_toNat_cond] at a b
  split at a <;> omega

theorem pos_of_bit (x : BitVec 32) (h : IntOp.cmpi .sge x 1#32 = 1#1) : 1 ≤ x.toNat ∧ x.toNat < 2 ^ 31 := by
  have a : (1 : ℤ) ≤ x.toInt := by simpa [BitVec.sle] using bit_true _ h
  rw [BitVec.toInt_eq_toNat_cond] at a
  have := x.isLt
  split at a <;> omega

section Decode
variable {F : FTy → Type} [FloatOps F]
variable (m : (ℓ : Loc nD τ sig) → Buf (Elt F) ℓ)

/-- What the precondition says, of either instance. -/
def InRange : Prop := (∀ k, (te m k).toNat < 8) ∧ 1 ≤ (na m).toNat ∧ (na m).toNat < 2 ^ 31

theorem inRange_of
    (h : ∀ c : Dev nD, (Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).1 = (fun _ => 1#1)
      ∧ (Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).2 = (fun _ => 1#1)) :
    InRange m :=
  ⟨fun k => range_of_bits _ (congrFun (h 0).1 (ix1 k)), pos_of_bit _ (congrFun (h 0).2 (ix1 (0 : Fin 1)))⟩

/-- The tile whose rows are read: the tile itself while it is in use, the last one in use after that. -/
theorem row_block (i : ℕ) (hi : i < 140) (n : BitVec 32) (h1 : 1 ≤ n.toNat) (h2 : n.toNat < 2 ^ 31) :
    (Scalar.minsi (BitVec.ofNat 32 i) (Scalar.subi n 1#32)).toNat = min i (n.toNat - 1) := by
  have hs : (Scalar.subi n 1#32 : BitVec 32).toNat = n.toNat - 1 := by
    show (n - 1#32).toNat = _
    rw [BitVec.toNat_sub]; simp; omega
  have hi' : (BitVec.ofNat 32 i).toNat = i := by simp; omega
  have e1 : (BitVec.ofNat 32 i).toInt = i := by rw [BitVec.toInt_eq_toNat_cond, hi']; split <;> omega
  have e2 : (Scalar.subi n 1#32 : BitVec 32).toInt = (n.toNat - 1 : ℕ) := by rw [BitVec.toInt_eq_toNat_cond, hs]; split <;> omega
  generalize Scalar.subi n 1#32 = v at *
  show (if (BitVec.ofNat 32 i).slt v then BitVec.ofNat 32 i else v).toNat = _
  unfold BitVec.slt
  rw [e1, e2]
  split
  · rename_i h; rw [hi']; simp at h; omega
  · rename_i h; rw [hs]; simp at h; omega

theorem index0_at (i : grid0.Coords) : cc0_transform_0 inb_S1_S1_0 numel1_S1 (tbl m) i = ![(Scalar.minsi (BitVec.ofNat 32 (i 0).val) (Scalar.subi (na m) 1#32)).toNat, 0] := by
  refine congrArg (fun w : BitVec 32 => (![(Scalar.minsi (BitVec.ofNat 32 (i 0).val) (Scalar.subi w 1#32)).toNat, 0] : Fin 2 → ℕ)) ?_
  exact congrArg (tbl m 1) ((eq_ix1 _).trans (congrArg ix1 (Fin.ext rfl)))

theorem coordOff : ∀ i : grid0.Coords, k0_off1 i 0 = (i 0).val := by
  intro i
  have hi : (i 0).val < 140 := (i 0).isLt
  show (BitVec.ofNat 32 (i 0).val).toNat = _
  simp; omega

theorem index1_at (i : grid0.Coords) : ∃ k : Fin 140, cc0_transform_1 k0_off1_inb numel1_S1 (tbl m) i = ![0, (te m k).toNat, 0, 0] := by
  refine ⟨⟨(i 0).val, (i 0).isLt⟩, congrArg (fun w : BitVec 32 => (![0, w.toNat, 0, 0] : Fin 4 → ℕ)) ?_⟩
  refine congrArg (tbl m 0) ((eq_ix1 _).trans (congrArg ix1 (Fin.ext ?_)))
  exact coordOff i
theorem ok_of (h : InRange m) : Ok m := by
  obtain ⟨ht, h1, h2⟩ := h
  have key : ∀ (i : grid0.Coords) (sz sh : Fin 4 → ℕ), sz 1 = 1 → sh 1 = 8 → sz 0 ≤ sh 0 → sz 2 ≤ sh 2 → sz 3 ≤ sh 3 →
      ∀ a, (cc0_transform_1 k0_off1_inb numel1_S1 (tbl m) i a + 1) * sz a ≤ sh a := by
    intro i sz sh e1 e2 e3 e4 e5 a
    obtain ⟨k, e⟩ := index1_at m i
    rw [e]
    have := ht k
    fin_cases a
    · simpa using e3
    · simp [e1, e2]; omega
    · simpa using e4
    · simpa using e5
  refine ⟨fun i => ⟨?_, .inl rfl⟩, fun i => ⟨?_, .inl rfl⟩, fun i => ⟨?_, .inl rfl⟩, fun i => ⟨?_, .inl rfl⟩⟩
  · have hi : (i 0).val < 140 := (i 0).isLt
    have e := index0_at m i
    rw [row_block _ hi _ h1 h2] at e
    intro a
    rw [e]
    fin_cases a
    · show (min (i 0).val ((na m).toNat - 1) + 1) * 2048 ≤ 286720
      omega
    · show (0 + 1) * 128 ≤ 128
      omega
  · exact key i _ _ rfl rfl (by decide) (by decide) (by decide)
  · exact key i _ _ rfl rfl (by decide) (by decide) (by decide)
  · exact key i _ _ rfl rfl (by decide) (by decide) (by decide)
end Decode

theorem preFacts : Cert.Pre_in_range.Facts := Cert.Pre_in_range.Gen.facts

/-- The run of the program over the extended reals' text, at words. -/
theorem frame_kernel : Cert.quiescent_Kernel3 := fun m g h => by
  have run := Cert.Kernel3Ideal.Hand.frame (F := Bits) m g (ok_of m (inRange_of m h))
  have e : Cert.Kernel3.defs (F := Bits) = Cert.Kernel3Ideal.defs (F := Bits) := Cert.MoeSame.same_defs
  rw [e]
  exact run
theorem frame_ideal : Cert.quiescent_Kernel3Ideal := fun m g h => frame (F := Ideal) m g (ok_of m (inRange_of m h))

theorem frame_reference : Cert.quiescent_Reference3Ideal := fun m g _ =>
  (θ_run Cert.Reference3Ideal.defs _ _).mono (fun r h => ⟨fun c => (h c).2,
      sem_eq_zero_of_no_sems (by decide) r.2⟩)
    (Cert.Reference3Ideal.Value.run (F := Ideal) m g)

end Cert.MoeClaim
end
-- ==== Proof.MoeEntry.lean ====
/- What the experts' kernel leaves in the output block, entry by entry: the gated feed-forward of a row under the tile's
   expert, laid back strip by strip. -/
module

public import proofs.«01_k».proof.Proof.MoeFrame
public import proofs.«01_k».proof.Proof.FfnRow
public import Idealize.ShloMosaic.Lib.Pipeline.StridedRows
public import Idealize.ShloMosaic.Lib.ValueLayout

@[expose] public section
set_option maxRecDepth 16384
noncomputable section
namespace Cert.Kernel3Ideal.Hand

open Cert.Kernel3Ideal Cert.Kernel3Ideal.Gen Cert.Ffn
open Idealize.ShloMosaic hiding ix0 ix1 ix2 ix3 ix4 eq_ix1 eq_ix2 eq_ix3 eq_ix4
open Idealize.ShloMosaic.ValueIdx Idealize.ShloMosaic.TcCoe Idealize.ShloMosaic.Tactic

/-- Column `128·s + l` of a row of 1024, and row `8·r + s` of a block of 2048. -/
def colOf (s : Fin 8) (l : Fin 128) : Fin 1024 := ⟨128 * s.val + l.val, by omega⟩
def lineOf (r : Fin 256) (s : Fin 8) : Fin 2048 := ⟨8 * r.val + s.val, by omega⟩
theorem colOf_split (k : Fin 1024) : ∃ s l, k = colOf s l := ⟨⟨k.val / 128, by omega⟩, ⟨k.val % 128, by omega⟩, Fin.ext (show k.val = 128 * (k.val / 128) + k.val % 128 by omega)⟩

/-- Entry `k` of row `r` of a block: its lines `8·r .. 8·r + 7`, one after the other. -/
def rowAt (x : Vec Ideal S2048x128 .f32) (r : Fin 256) (k : Fin 1024) : EReal :=
  x (ix2 (⟨8 * r.val + k.val / 128, by omega⟩ : Fin 2048) (⟨k.val % 128, by omega⟩ : Fin 128))

theorem strips_apply (y : Fin 8 → FVec Ideal S256x128 .f32) (s : Fin 8) (r : Fin 256) (l : Fin 128) :
    concatenate S256x1024 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 (ix2 r (colOf s l)) = y s (ix2 r l) := by
  have side : ∀ e : Fin 2, e ≠ 1 → ((ix2 r l : S256x128.Idx) e).val = ((ix2 r (colOf s l) : S256x1024.Idx) e).val :=
    fun e => match e with | ⟨0, _⟩ => fun _ => rfl | ⟨1, _⟩ => fun hne => absurd rfl hne
  match s with
  | ⟨0, h⟩ =>
    exact concatenate_apply_piece 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 _ 0 (by simp) S256x128 (y 0) rfl rfl 0 (by rfl) (ix2 r l)
      side (show 0 + l.val = 128 * 0 + l.val by omega)
  | ⟨1, h⟩ =>
    exact concatenate_apply_piece 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 _ 1 (by simp) S256x128 (y 1) rfl rfl 128 (by simp) (ix2 r l)
      side (show 128 + l.val = 128 * 1 + l.val by omega)
  | ⟨2, h⟩ =>
    exact concatenate_apply_piece 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 _ 2 (by simp) S256x128 (y 2) rfl rfl 256 (by simp) (ix2 r l)
      side (show 256 + l.val = 128 * 2 + l.val by omega)
  | ⟨3, h⟩ =>
    exact concatenate_apply_piece 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 _ 3 (by simp) S256x128 (y 3) rfl rfl 384 (by simp) (ix2 r l)
      side (show 384 + l.val = 128 * 3 + l.val by omega)
  | ⟨4, h⟩ =>
    exact concatenate_apply_piece 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 _ 4 (by simp) S256x128 (y 4) rfl rfl 512 (by simp) (ix2 r l)
      side (show 512 + l.val = 128 * 4 + l.val by omega)
  | ⟨5, h⟩ =>
    exact concatenate_apply_piece 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 _ 5 (by simp) S256x128 (y 5) rfl rfl 640 (by simp) (ix2 r l)
      side (show 640 + l.val = 128 * 5 + l.val by omega)
  | ⟨6, h⟩ =>
    exact concatenate_apply_piece 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 _ 6 (by simp) S256x128 (y 6) rfl rfl 768 (by simp) (ix2 r l)
      side (show 768 + l.val = 128 * 6 + l.val by omega)
  | ⟨7, h⟩ =>
    exact concatenate_apply_piece 1 [⟨S256x128, y 0⟩, ⟨S256x128, y 1⟩, ⟨S256x128, y 2⟩, ⟨S256x128, y 3⟩, ⟨S256x128, y 4⟩, ⟨S256x128, y 5⟩, ⟨S256x128, y 6⟩, ⟨S256x128, y 7⟩] concatenates_S256x128_S256x128_S256x128_S256x128_S256x128_S256x128_S256x128_S256x128_S256x1024_d1 _ 7 (by simp) S256x128 (y 7) rfl rfl 896 (by simp) (ix2 r l)
      side (show 896 + l.val = 128 * 7 + l.val by omega)

/-- The strips of a block, by number. -/
def stripN (x : Vec Ideal S2048x128 .f32) (s : Fin 8) : FVec Ideal S256x128 .f32 := fun y => x (ix2 (lineOf (y 0) s) (y 1))

theorem strip_eq (x : Vec Ideal S2048x128 .f32) (s : Fin 8) (inb) : strip x (⟨![s.val, 0], S256x128.size, ![8, 1], inb⟩ : LoadRect S2048x128) = stripN x s := by
  funext y
  unfold strip stripN
  refine congrArg x (funext fun a => Fin.ext ?_)
  match a with
  | ⟨0, _⟩ => show s.val + 8 * (y 0).val = 8 * (y 0).val + s.val; omega
  | ⟨1, _⟩ => show 0 + 1 * (y 1).val = (y 1).val; omega

/-- The rows of a block, gathered. -/
def rows (x : Vec Ideal S2048x128 .f32) : FVec Ideal S256x1024 .f32 :=
  concatenate S256x1024 1 [⟨S256x128, stripN x 0⟩, ⟨S256x128, stripN x 1⟩, ⟨S256x128, stripN x 2⟩, ⟨S256x128, stripN x 3⟩, ⟨S256x128, stripN x 4⟩, ⟨S256x128, stripN x 5⟩, ⟨S256x128, stripN x 6⟩, ⟨S256x128, stripN x 7⟩] concatenates_S256x128_S256x128_S256x128_S256x128_S256x128_S256x128_S256x128_S256x128_S256x1024_d1

theorem rows_apply (x : Vec Ideal S2048x128 .f32) (r : Fin 256) (k : Fin 1024) : rows x (ix2 r k) = rowAt x r k := by
  obtain ⟨s, l, rfl⟩ := colOf_split k
  refine (strips_apply (stripN x) s r l).trans ?_
  unfold stripN rowAt
  refine congrArg x (congr (congrArg ix2 (Fin.ext ?_)) (Fin.ext ?_))
  · show 8 * r.val + s.val = 8 * r.val + (128 * s.val + l.val) / 128
    omega
  · show l.val = (128 * s.val + l.val) % 128
    omega

section Products
variable (a : FVec Ideal S256x1024 .f32) (w0 w1 : FVec Ideal S1024x1408 .bf16) (w2 : FVec Ideal S1408x1024 .bf16) (r : Fin 256)

theorem up_apply (w : FVec Ideal S1024x1408 .bf16) (j : Fin 1408) :
    matmul (F := Ideal) dot_S256x1024_S1024x1408_S256x1408_1_0_0_1_n_n none (truncf (F := Ideal) .bf16 a bitsLt_bf16_f32) w (constant S256x1408 .f32 0x00000000#32) (ix2 r j)
      = ∑ k : Fin 1024, a (ix2 r k) * w (ix2 k j) := by
  refine (Ideal.matmul_constant_zero_apply _ none _ _ _).trans ?_
  rw [← Equiv.sum_comp (contrEquiv1 dot_S256x1024_S1024x1408_S256x1408_1_0_0_1_n_n 1024 rfl rfl).symm]
  refine Finset.sum_congr rfl fun k _ => ?_
  rw [show (dot_S256x1024_S1024x1408_S256x1408_1_0_0_1_n_n.lhsIdx (ix2 r j) ((contrEquiv1 dot_S256x1024_S1024x1408_S256x1408_1_0_0_1_n_n 1024 rfl rfl).symm k)) = ix2 r k from
      (eq_ix2 _).trans rfl,
    show (dot_S256x1024_S1024x1408_S256x1408_1_0_0_1_n_n.rhsIdx (ix2 r j) ((contrEquiv1 dot_S256x1024_S1024x1408_S256x1408_1_0_0_1_n_n 1024 rfl rfl).symm k)) = ix2 k j from
      (eq_ix2 _).trans rfl]
  rfl

/-- The hidden layer's values, and the product with the last weights. -/
def hidT : FVec Ideal S256x1408 .f32 :=
  mulf (mulf (matmul (F := Ideal) dot_S256x1024_S1024x1408_S256x1408_1_0_0_1_n_n none (truncf (F := Ideal) .bf16 a bitsLt_bf16_f32) w0 (constant S256x1408 .f32 0x00000000#32))
      (logistic (matmul (F := Ideal) dot_S256x1024_S1024x1408_S256x1408_1_0_0_1_n_n none (truncf (F := Ideal) .bf16 a bitsLt_bf16_f32) w0 (constant S256x1408 .f32 0x00000000#32))))
    (matmul (F := Ideal) dot_S256x1024_S1024x1408_S256x1408_1_0_0_1_n_n none (truncf (F := Ideal) .bf16 a bitsLt_bf16_f32) w1 (constant S256x1408 .f32 0x00000000#32))
def prodT : FVec Ideal S256x1024 .f32 :=
  matmul (F := Ideal) dot_S256x1408_S1408x1024_S256x1024_1_0_0_1_n_n none (truncf (F := Ideal) .bf16 (hidT a w0 w1) bitsLt_bf16_f32) w2 (constant S256x1024 .f32 0x00000000#32)

theorem hidT_apply (j : Fin 1408) : hidT a w0 w1 (ix2 r j) = gated (fun k => a (ix2 r k)) (fun k j => w0 (ix2 k j)) (fun k j => w1 (ix2 k j)) j := by
  unfold gated
  rw [← up_apply a r w0 j, ← up_apply a r w1 j]
  rfl

theorem prodT_apply (d : Fin 1024) : prodT a w0 w1 w2 (ix2 r d)
    = ∑ j : Fin 1408, gated (fun k => a (ix2 r k)) (fun k j => w0 (ix2 k j)) (fun k j => w1 (ix2 k j)) j * w2 (ix2 j d) := by
  unfold prodT
  refine (Ideal.matmul_constant_zero_apply _ none _ _ _).trans ?_
  rw [← Equiv.sum_comp (contrEquiv1 dot_S256x1408_S1408x1024_S256x1024_1_0_0_1_n_n 1408 rfl rfl).symm]
  refine Finset.sum_congr rfl fun j _ => ?_
  rw [show (dot_S256x1408_S1408x1024_S256x1024_1_0_0_1_n_n.lhsIdx (ix2 r d) ((contrEquiv1 dot_S256x1408_S1408x1024_S256x1024_1_0_0_1_n_n 1408 rfl rfl).symm j)) = ix2 r j from
      (eq_ix2 _).trans rfl,
    show (dot_S256x1408_S1408x1024_S256x1024_1_0_0_1_n_n.rhsIdx (ix2 r d) ((contrEquiv1 dot_S256x1408_S1408x1024_S256x1024_1_0_0_1_n_n 1408 rfl rfl).symm j)) = ix2 j d from
      (eq_ix2 _).trans rfl]
  exact congrArg (· * _) (hidT_apply a w0 w1 r j)
end Products

theorem accOf_eq (x : Vec Ideal S2048x128 .f32) (w0 w1 : Vec Ideal S1024x1408 .bf16) (w2 : Vec Ideal S1408x1024 .bf16) :
    accOf x w0 w1 w2 = prodT (rows x) w0 w1 w2 := by
  unfold accOf
  have e0 : strip x (⟨![0, 0], S256x128.size, ![8, 1], inb_S2048x128_S256x128_0_0_s_8_1⟩ : LoadRect S2048x128) = stripN x 0 := strip_eq x 0 inb_S2048x128_S256x128_0_0_s_8_1
  have e1 : strip x (⟨![1, 0], S256x128.size, ![8, 1], inb_S2048x128_S256x128_1_0_s_8_1⟩ : LoadRect S2048x128) = stripN x 1 := strip_eq x 1 inb_S2048x128_S256x128_1_0_s_8_1
  have e2 : strip x (⟨![2, 0], S256x128.size, ![8, 1], inb_S2048x128_S256x128_2_0_s_8_1⟩ : LoadRect S2048x128) = stripN x 2 := strip_eq x 2 inb_S2048x128_S256x128_2_0_s_8_1
  have e3 : strip x (⟨![3, 0], S256x128.size, ![8, 1], inb_S2048x128_S256x128_3_0_s_8_1⟩ : LoadRect S2048x128) = stripN x 3 := strip_eq x 3 inb_S2048x128_S256x128_3_0_s_8_1
  have e4 : strip x (⟨![4, 0], S256x128.size, ![8, 1], inb_S2048x128_S256x128_4_0_s_8_1⟩ : LoadRect S2048x128) = stripN x 4 := strip_eq x 4 inb_S2048x128_S256x128_4_0_s_8_1
  have e5 : strip x (⟨![5, 0], S256x128.size, ![8, 1], inb_S2048x128_S256x128_5_0_s_8_1⟩ : LoadRect S2048x128) = stripN x 5 := strip_eq x 5 inb_S2048x128_S256x128_5_0_s_8_1
  have e6 : strip x (⟨![6, 0], S256x128.size, ![8, 1], inb_S2048x128_S256x128_6_0_s_8_1⟩ : LoadRect S2048x128) = stripN x 6 := strip_eq x 6 inb_S2048x128_S256x128_6_0_s_8_1
  have e7 : strip x (⟨![7, 0], S256x128.size, ![8, 1], inb_S2048x128_S256x128_7_0_s_8_1⟩ : LoadRect S2048x128) = stripN x 7 := strip_eq x 7 inb_S2048x128_S256x128_7_0_s_8_1
  rw [e0, e1, e2, e3, e4, e5, e6, e7]
  rfl

theorem accOf_apply (x : Vec Ideal S2048x128 .f32) (w0 w1 : Vec Ideal S1024x1408 .bf16) (w2 : Vec Ideal S1408x1024 .bf16) (r : Fin 256) (d : Fin 1024) :
    accOf x w0 w1 w2 (ix2 r d) = ∑ j : Fin 1408, gated (rowAt x r) (fun k j => w0 (ix2 k j)) (fun k j => w1 (ix2 k j)) j * w2 (ix2 j d) := by
  rw [accOf_eq, prodT_apply]
  simp only [rows_apply]

/-- The product laid out line by line: what the output block holds. -/
def laid (acc : FVec Ideal S256x1024 .f32) (y : S2048x128.Idx) : EReal :=
  acc (ix2 (⟨(y 0).val / 8, by have : (y 0).val < 2048 := (y 0).isLt; omega⟩ : Fin 256) (⟨128 * ((y 0).val % 8) + (y 1).val, by have : (y 1).val < 128 := (y 1).isLt; omega⟩ : Fin 1024))

theorem piece_eq (acc : FVec Ideal S256x1024 .f32) (s : ℕ) (hs : s < 8) (hsl : S256x1024.Slices ![0, 128 * s] S256x128) (inb) (y : S256x128.Idx) :
    extractStridedSlice S256x128 ![0, 128 * s] acc hsl y = laid acc ((⟨(⟨![s, 0], S256x128.size, ![8, 1], inb⟩ : LoadRect S2048x128), spos_8_1⟩ : Rect S2048x128).emb y) := by
  obtain ⟨r, l, rfl⟩ : ∃ (r : Fin 256) (l : Fin 128), y = (ix2 r l : S256x128.Idx) := ⟨y 0, y 1, eq_ix2 y⟩
  refine (slice2_axis1_eq (128 * s) acc hsl r l).trans ?_
  unfold laid
  refine congrArg acc (congr (congrArg ix2 (Fin.ext ?_)) (Fin.ext ?_))
  · show r.val = (s + 8 * r.val) / 8
    omega
  · show 128 * s + l.val = 128 * ((s + 8 * r.val) % 8) + (0 + 1 * l.val)
    omega

theorem tile_pieces (acc : FVec Ideal S256x1024 .f32) : ∀ p ∈ tileL acc, ∀ x, p.2 x = laid acc (p.1.emb x) := by
  intro p hp
  unfold tileL at hp
  simp only [List.mem_cons, List.not_mem_nil, or_false] at hp
  rcases hp with rfl | rfl | rfl | rfl | rfl | rfl | rfl | rfl
  · exact fun x => piece_eq acc 7 (by decide) slices_S256x1024_o0_896_S256x128 inb_S2048x128_S256x128_7_0_s_8_1 x
  · exact fun x => piece_eq acc 6 (by decide) slices_S256x1024_o0_768_S256x128 inb_S2048x128_S256x128_6_0_s_8_1 x
  · exact fun x => piece_eq acc 5 (by decide) slices_S256x1024_o0_640_S256x128 inb_S2048x128_S256x128_5_0_s_8_1 x
  · exact fun x => piece_eq acc 4 (by decide) slices_S256x1024_o0_512_S256x128 inb_S2048x128_S256x128_4_0_s_8_1 x
  · exact fun x => piece_eq acc 3 (by decide) slices_S256x1024_o0_384_S256x128 inb_S2048x128_S256x128_3_0_s_8_1 x
  · exact fun x => piece_eq acc 2 (by decide) slices_S256x1024_o0_256_S256x128 inb_S2048x128_S256x128_2_0_s_8_1 x
  · exact fun x => piece_eq acc 1 (by decide) slices_S256x1024_o0_128_S256x128 inb_S2048x128_S256x128_1_0_s_8_1 x
  · exact fun x => piece_eq acc 0 (by decide) slices_S256x1024_o0_0_S256x128 inb_S2048x128_S256x128_0_0_s_8_1 x

theorem zero_word : Ideal.ofBits .f32 0x00000000#32 = 0 := by simp [Ideal.ofBits, Ideal.ieee]

open Classical in
theorem outVal_apply (p : Prop) (acc : FVec Ideal S256x1024 .f32) (y : S2048x128.Idx) : outVal p acc y = if p then laid acc y else 0 := by
  unfold outVal
  by_cases h : p
  · rw [if_pos h, if_pos h]
    rw [View.read_writes_apply_eq_canon _ _ y (tileL acc) (tile_cover acc y)]
    exact View.canon_apply_of_pieces (Val := Elt Ideal) (laid acc) (tileL acc) (tile_pieces acc) y (tile_cover acc y)
  · rw [if_neg h, if_neg h]
    exact zero_word

end Cert.Kernel3Ideal.Hand
end
-- ==== Proof.MoeRef.lean ====
/- The reference's experts, read at an index: a tile's row under the tile's own expert, or zero. -/
module

public import proofs.«01_k».proof.Proof.Gen.Reference3Ideal.Read
public import proofs.«01_k».proof.Proof.FfnRow
public import proofs.«01_k».proof.Proof.Cat
public import Idealize.ShloMosaic.Lib.IdealHost

@[expose] public section
noncomputable section
namespace Cert.Reference3Ideal.Hand
open Idealize.ShloMosaic hiding ix0 ix1 ix2 ix3 ix4 eq_ix1 eq_ix2 eq_ix3 eq_ix4
open Cert.Reference3Ideal Cert.Reference3Ideal.Gen Cert.Reference3Ideal.Read Idealize.ShloMosaic.ValueIdx Cert.Ffn Idealize.ShloMosaic.TcCoe
open Facts

variable (x0 : Vec Ideal S140 .i32) (x1 : Vec Ideal S1 .i32)
  (x2 : FVec Ideal S286720x128 .f32) (x3 x4 : FVec Ideal S2x8x1024x1408 .f32) (x5 : FVec Ideal S2x8x1408x1024 .f32)

/-- Entry `k` of row `r` of tile `T`: the lines `2048·T + 8·r ..`, one after the other. -/
def rowIn (T : Fin 140) (r : Fin 256) (k : Fin 1024) : EReal :=
  x2 (ix2 (⟨2048 * T.val + 8 * r.val + k.val / 128, by omega⟩ : Fin 286720) (⟨k.val % 128, by omega⟩ : Fin 128))

theorem v0_at (T : Fin 140) (r : Fin 256) (k : Fin 1024) : val_main_v0 (F := Ideal) x2 (ix3 T r k) = rowIn x2 T r k := by
  rw [val_main_v0_apply]
  refine congrArg x2 ((eq_ix2 _).trans (congr (congrArg ix2 (Fin.ext ?_)) (Fin.ext ?_)))
  · show ((T.val * 256 + r.val) * 1024 + k.val) / 128 = 2048 * T.val + 8 * r.val + k.val / 128
    omega
  · show ((T.val * 256 + r.val) * 1024 + k.val) % 128 = k.val % 128
    omega

theorem v2_at (e : Fin 8) (k : Fin 1024) (j : Fin 1408) : val_main_v2 (F := Ideal) x3 (ix3 e k j) = x3 (ix4 (0 : Fin 2) e k j) := by
  rw [val_main_v2_apply, val_main_v1_apply]
  refine congrArg x3 ((eq_ix4 _).trans (congr (congr (congr (congrArg ix4 (Fin.ext rfl)) (Fin.ext ?_)) (Fin.ext ?_)) (Fin.ext ?_)))
  · show ((e.val * 1024 + k.val) * 1408 + j.val) / 1441792 % 8 = e.val
    omega
  · show ((e.val * 1024 + k.val) * 1408 + j.val) / 1408 % 1024 = k.val
    omega
  · show ((e.val * 1024 + k.val) * 1408 + j.val) % 1408 = j.val
    omega

theorem v6_at (e : Fin 8) (k : Fin 1024) (j : Fin 1408) : val_main_v6 (F := Ideal) x4 (ix3 e k j) = x4 (ix4 (0 : Fin 2) e k j) := by
  rw [val_main_v6_apply, val_main_v5_apply]
  refine congrArg x4 ((eq_ix4 _).trans (congr (congr (congr (congrArg ix4 (Fin.ext rfl)) (Fin.ext ?_)) (Fin.ext ?_)) (Fin.ext ?_)))
  · show ((e.val * 1024 + k.val) * 1408 + j.val) / 1441792 % 8 = e.val
    omega
  · show ((e.val * 1024 + k.val) * 1408 + j.val) / 1408 % 1024 = k.val
    omega
  · show ((e.val * 1024 + k.val) * 1408 + j.val) % 1408 = j.val
    omega

theorem v10_at (e : Fin 8) (j : Fin 1408) (d : Fin 1024) : val_main_v10 (F := Ideal) x5 (ix3 e j d) = x5 (ix4 (0 : Fin 2) e j d) := by
  rw [val_main_v10_apply, val_main_v9_apply]
  refine congrArg x5 ((eq_ix4 _).trans (congr (congr (congr (congrArg ix4 (Fin.ext rfl)) (Fin.ext ?_)) (Fin.ext ?_)) (Fin.ext ?_)))
  · show ((e.val * 1408 + j.val) * 1024 + d.val) / 1441792 % 8 = e.val
    omega
  · show ((e.val * 1408 + j.val) * 1024 + d.val) / 1024 % 1408 = j.val
    omega
  · show ((e.val * 1408 + j.val) * 1024 + d.val) % 1024 = d.val
    omega

theorem v3_at (T : Fin 140) (r : Fin 256) (e : Fin 8) (j : Fin 1408) : val_main_v3 (F := Ideal) x2 x3 (ix4 T r e j)
    = ∑ k : Fin 1024, rowIn x2 T r k * x3 (ix4 (0 : Fin 2) e k j) := by
  rw [val_main_v3_apply]
  refine Finset.sum_congr rfl fun k _ => ?_
  rw [show lidx_main_v3 (ix4 T r e j) k = ix3 T r k from (eq_ix3 _).trans rfl, show ridx_main_v3 (ix4 T r e j) k = ix3 e k j from (eq_ix3 _).trans rfl, v0_at, v2_at]

theorem v7_at (T : Fin 140) (r : Fin 256) (e : Fin 8) (j : Fin 1408) : val_main_v7 (F := Ideal) x2 x4 (ix4 T r e j)
    = ∑ k : Fin 1024, rowIn x2 T r k * x4 (ix4 (0 : Fin 2) e k j) := by
  rw [val_main_v7_apply]
  refine Finset.sum_congr rfl fun k _ => ?_
  rw [show lidx_main_v7 (ix4 T r e j) k = ix3 T r k from (eq_ix3 _).trans rfl, show ridx_main_v7 (ix4 T r e j) k = ix3 e k j from (eq_ix3 _).trans rfl, v0_at, v6_at]

theorem v8_at (T : Fin 140) (r : Fin 256) (e : Fin 8) (j : Fin 1408) : val_main_v8 (F := Ideal) x2 x3 x4 (ix4 T r e j)
    = gated (rowIn x2 T r) (fun k j => x3 (ix4 (0 : Fin 2) e k j)) (fun k j => x4 (ix4 (0 : Fin 2) e k j)) j := by
  rw [val_main_v8_apply, val_main_v4_apply, val_main_call0_v5_apply, val_main_call0_v4_apply, val_main_call0_cst_0_apply, val_main_call0_v3_apply,
    val_main_call0_v2_apply, val_main_call0_cst_apply, val_main_call0_v1_apply, val_main_call0_v0_apply, v3_at, v7_at]
  show _ * Ideal.div (Ideal.ofBits .f32 0x3F800000#32) (Ideal.ofBits .f32 0x3F800000#32 + _) * _ = _
  rw [Ideal.ofBits_one_f32]
  rfl

/-- Row `r` of tile `T` under expert `e`. -/
def under (e : Fin 8) (T : Fin 140) (r : Fin 256) (d : Fin 1024) : EReal :=
  ∑ j : Fin 1408, gated (rowIn x2 T r) (fun k j => x3 (ix4 (0 : Fin 2) e k j)) (fun k j => x4 (ix4 (0 : Fin 2) e k j)) j * x5 (ix4 (0 : Fin 2) e j d)

theorem v11_at (e : Fin 8) (T : Fin 140) (r : Fin 256) (d : Fin 1024) : val_main_v11 (F := Ideal) x2 x3 x4 x5 (ix4 e T r d) = under x2 x3 x4 x5 e T r d := by
  rw [val_main_v11_apply]
  refine Finset.sum_congr rfl fun j _ => ?_
  rw [show lidx_main_v11 (ix4 e T r d) j = ix4 T r e j from (eq_ix4 _).trans rfl, show ridx_main_v11 (ix4 e T r d) j = ix3 e j d from (eq_ix3 _).trans rfl, v8_at, v10_at]

/-- The tile belongs to the expert and is in use. -/
def ownBit (e : Fin 8) (T : Fin 140) : BitVec 1 :=
  IntOp.andi (IntOp.cmpi .eq (x0 (ix1 T)) (BitVec.ofNat 32 e.val)) (IntOp.cmpi .slt (BitVec.ofNat 32 T.val) (x1 (ix1 (0 : Fin 1))))

theorem own_at (e : Fin 8) (T : Fin 140) (r : Fin 256) (d : Fin 1024) : val_main_call1_v1 (F := Ideal) x0 x1 (ix4 e T r d) = ownBit x0 x1 e T := by
  rw [val_main_call1_v1_apply, val_main_v24_apply, val_main_v23_apply, val_main_v17_apply, val_main_v15_apply, val_main_v14_apply, val_main_v16_apply, val_main_v13_apply,
    val_main_v12_apply, val_main_v22_apply, val_main_v21_apply, val_main_v20_apply, val_main_v18_apply, val_main_v19_apply]
  unfold ownBit
  refine congr (congrArg IntOp.andi (congr (congrArg (IntOp.cmpi .eq) (congrArg x0 ((eq_ix1 _).trans (congrArg ix1 (Fin.ext rfl))))) rfl)) ?_
  exact congr (congrArg (IntOp.cmpi .slt) rfl) (congrArg x1 ((eq_ix1 _).trans (congrArg ix1 (Fin.ext rfl))))

theorem zero_at (i : S8x140x256x1024.Idx) : val_main_call1_v2 (F := Ideal) i = (0 : EReal) := by
  rw [val_main_call1_v2_apply, val_main_call1_v0_apply, val_main_c_apply]
  show (((0#32 : BitVec 32).toInt : ℝ) : EReal) = 0
  simp

theorem sum_at (T : Fin 140) (r : Fin 256) (d : Fin 1024) : val_main_v26 (F := Ideal) x0 x1 x2 x3 x4 x5 (ix3 T r d)
    = ∑ e : Fin 8, (if ownBit x0 x1 e T = 1#1 then under x2 x3 x4 x5 e T r d else 0) := by
  rw [val_main_v26_apply, val_main_cst_apply]
  show Ideal.ofBits .f32 0x00000000#32 + _ = _
  rw [Ideal.ofBits_zero_f32, zero_add]
  refine Finset.sum_congr rfl fun e _ => ?_
  rw [show idx_main_v26 (ix3 T r d) e = ix4 e T r d from (eq_ix4 _).trans rfl, val_main_v25_apply, own_at, v11_at, zero_at]
  rfl

theorem own_iff : ∀ a b : Bool, IntOp.andi (BitVec.ofBool a) (BitVec.ofBool b) = 1#1 ↔ (a = true ∧ b = true) := by decide

theorem ownBit_iff (e : Fin 8) (T : Fin 140) : ownBit x0 x1 e T = 1#1 ↔ (x0 (ix1 T) = BitVec.ofNat 32 e.val ∧ (BitVec.ofNat 32 T.val).toInt < (x1 (ix1 (0 : Fin 1))).toInt) := by
  unfold ownBit
  refine (own_iff (x0 (ix1 T) == BitVec.ofNat 32 e.val) ((BitVec.ofNat 32 T.val).slt (x1 (ix1 (0 : Fin 1))))).trans ?_
  rw [beq_iff_eq, BitVec.slt, decide_eq_true_iff]

open Classical in
/-- A tile's row, its expert known. -/
theorem tile_at (T : Fin 140) (r : Fin 256) (d : Fin 1024) (E : Fin 8) (hE : (x0 (ix1 T)).toNat = E.val) : val_main_v26 (F := Ideal) x0 x1 x2 x3 x4 x5 (ix3 T r d)
    = if (BitVec.ofNat 32 T.val).toInt < (x1 (ix1 (0 : Fin 1))).toInt then under x2 x3 x4 x5 E T r d else 0 := by
  rw [sum_at]
  have hx : ∀ e : Fin 8, x0 (ix1 T) = BitVec.ofNat 32 e.val ↔ e = E := by
    intro e
    rw [← BitVec.toNat_inj, hE, Fin.ext_iff, BitVec.toNat_ofNat]
    have := e.isLt
    omega
  rw [Finset.sum_eq_single E]
  · refine if_congr ?_ rfl rfl
    rw [ownBit_iff]
    exact and_iff_right ((hx E).2 rfl)
  · intro e _ he
    rw [if_neg]
    rw [ownBit_iff]
    exact fun h => he ((hx e).1 h.1)
  · intro h
    exact absurd (Finset.mem_univ _) h

theorem out_at (T : Fin 140) (r : Fin 256) (s : Fin 8) (l : Fin 128) (Q : Fin 286720) (hQ : Q.val = 2048 * T.val + 8 * r.val + s.val) (d : Fin 1024) (hd : d.val = 128 * s.val + l.val) :
    val_main_v27 (F := Ideal) x0 x1 x2 x3 x4 x5 (ix2 Q l) = val_main_v26 (F := Ideal) x0 x1 x2 x3 x4 x5 (ix3 T r d) := by
  rw [val_main_v27_apply]
  refine congrArg (val_main_v26 (F := Ideal) x0 x1 x2 x3 x4 x5) ((eq_ix3 _).trans (congr (congr (congrArg ix3 (Fin.ext ?_)) (Fin.ext ?_)) (Fin.ext ?_)))
  · show (Q.val * 128 + l.val) / 262144 = T.val
    omega
  · show (Q.val * 128 + l.val) / 1024 % 256 = r.val
    omega
  · show (Q.val * 128 + l.val) % 1024 = d.val
    omega

end Cert.Reference3Ideal.Hand
end
-- ==== Proof.MoeFinal.lean ====
/- The experts' call: its result array is the reference's, tile by tile. -/
module

public import proofs.«01_k».proof.Proof.MoeClaim
public import proofs.«01_k».proof.Proof.MoeEntry
public import proofs.«01_k».proof.Proof.MoeRef
public import Idealize.ShloMosaic.Lib.Pipeline.Covers

@[expose] public section
set_option maxRecDepth 16384
noncomputable section
namespace Cert.Kernel3Ideal.Hand
open Cert.Kernel3Ideal Cert.Kernel3Ideal.Gen Cert.Ffn Cert.MoeClaim
open Idealize.ShloMosaic hiding ix0 ix1 ix2 ix3 ix4 eq_ix1 eq_ix2 eq_ix3 eq_ix4
open Idealize.ShloMosaic.ValueIdx Idealize.ShloMosaic.TcCoe Idealize.ShloMosaic.Tactic
open Idealize.ShloMosaic.Pipeline (Dat Cfg Window)

theorem pay1_apply (x : Vec Ideal S1x1x1024x1408 .f32) (a : Fin 1024) (b : Fin 1408) : k0_pay1 (F := Ideal) x (ix2 a b) = x (ix4 (0 : Fin 1) (0 : Fin 1) a b) := by
  unfold k0_pay1
  rw [shapeCast_self]
  exact shapeCast_apply x shapeCasts_S1x1x1024x1408_S1024x1408 (ix2 a b) (ix4 (0 : Fin 1) (0 : Fin 1) a b)
    (by rewrite [Shape.rowMajor_val_four, Shape.rowMajor_val_two]; show ((0 * 1 + 0) * 1024 + a.val) * 1408 + b.val = a.val * 1408 + b.val; omega)
theorem pay2_apply (x : Vec Ideal S1x1x1024x1408 .f32) (a : Fin 1024) (b : Fin 1408) : k0_pay2 (F := Ideal) x (ix2 a b) = x (ix4 (0 : Fin 1) (0 : Fin 1) a b) := by
  unfold k0_pay2
  rw [shapeCast_self]
  exact shapeCast_apply x shapeCasts_S1x1x1024x1408_S1024x1408 (ix2 a b) (ix4 (0 : Fin 1) (0 : Fin 1) a b)
    (by rewrite [Shape.rowMajor_val_four, Shape.rowMajor_val_two]; show ((0 * 1 + 0) * 1024 + a.val) * 1408 + b.val = a.val * 1408 + b.val; omega)
theorem pay3_apply (x : Vec Ideal S1x1x1408x1024 .f32) (a : Fin 1408) (b : Fin 1024) : k0_pay3 (F := Ideal) x (ix2 a b) = x (ix4 (0 : Fin 1) (0 : Fin 1) a b) := by
  unfold k0_pay3
  rw [shapeCast_self]
  exact shapeCast_apply x shapeCasts_S1x1x1408x1024_S1408x1024 (ix2 a b) (ix4 (0 : Fin 1) (0 : Fin 1) a b)
    (by rewrite [Shape.rowMajor_val_four, Shape.rowMajor_val_two]; show ((0 * 1 + 0) * 1408 + a.val) * 1024 + b.val = a.val * 1024 + b.val; omega)

variable (m : (ℓ : Loc nD τ sig) → Buf (Elt Ideal) ℓ)

theorem index0 (hO : Ok m) (hR : InRange m) (t : Fin (cfgM m hO).N) :
    @Eq (Fin 2 → ℕ) (((cfgM m hO).win 0).index t) ![min t.val ((na m).toNat - 1), 0] := by
  have hc : (grid0.coords t 0).val = t.val := coord t
  have ht : t.val < 140 := (tl t).isLt
  refine (index0_at m (grid0.coords t)).trans ?_
  rw [hc, row_block _ ht _ hR.2.1 hR.2.2]

theorem at2 (f g : Fin 2 → ℕ) (h : f = g) (a : Fin 2) : f a = g a := congrFun h a
theorem scale_add (p p' n q r : ℕ) (h : p = p') (e : p' * n + q = r) : p * n + q = r := by rw [h, e]

/-- A tile in use reads its own rows. -/
theorem iblk0 (hO : Ok m) (hR : InRange m) (c : Dev nD) (t : Fin (cfgM m hO).N) (ht : t.val < (na m).toNat) (q : Fin 2048) (l : Fin 128)
    (Q : Fin 286720) (hQ : Q.val = 2048 * t.val + q.val) : iblk m hO c 0 t (ix2 q l) = V m c main_arg2 (ix2 Q l) := by
  unfold iblk
  refine (View.read_apply _ _).trans ?_
  refine congrArg (V m c main_arg2) ((eq_ix2 _).trans ?_)
  refine congr (congrArg ix2 (Fin.ext ?_)) (Fin.ext ?_)
  · blk_simp [index0]
    refine scale_add _ _ _ _ _ (at2 _ _ (index0 m hO hR t) 0) ?_
    show min t.val ((na m).toNat - 1) * 2048 + q.val = Q.val
    omega
  · blk_simp [index0]; exact fin0 _ _ _ (at2 _ _ (index0 m hO hR t) 1)

/-- The reference's array, of the kernel's arguments. -/
def goal (c : Dev nD) : FVec Ideal S286720x128 .f32 :=
  Cert.Reference3Ideal.Read.val_main_v27 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem nat_of_used (i : ℕ) (hi : i < 140) (v : BitVec 32) (h2 : v.toNat < 2 ^ 31) (h : (BitVec.ofNat 32 i).toInt < v.toInt) : i < v.toNat := by
  have hi' : (BitVec.ofNat 32 i).toNat = i := by simp; omega
  rw [BitVec.toInt_eq_toNat_cond, BitVec.toInt_eq_toNat_cond, hi'] at h
  split at h <;> split at h <;> omega

/-- What the tile's matrices are, entry by entry. -/
theorem acc_value (hO : Ok m) (hR : InRange m) (c : Dev nD) (t : Fin (cfgM m hO).N) (ht : t.val < (na m).toNat) (r : Fin 256) (d : Fin 1024) :
    accOf (iblk m hO c 0 t) (w0 m hO c t) (w1 m hO c t) (w2 m hO c t) (ix2 r d)
      = Cert.Reference3Ideal.Hand.under (m ((c : Thread nD τ).loc main_arg2)) (m ((c : Thread nD τ).loc main_arg3)) (m ((c : Thread nD τ).loc main_arg4))
          (m ((c : Thread nD τ).loc main_arg5)) (teF m hO (tl t)) (tl t) r d := by
  refine (accOf_apply _ _ _ _ r d).trans ?_
  unfold Cert.Reference3Ideal.Hand.under
  have hx : rowAt (iblk m hO c 0 t) r = Cert.Reference3Ideal.Hand.rowIn (m ((c : Thread nD τ).loc main_arg2)) (tl t) r := by
    funext k
    unfold rowAt Cert.Reference3Ideal.Hand.rowIn
    refine iblk0 m hO hR c t ht _ _ _ ?_
    show 2048 * t.val + 8 * r.val + k.val / 128 = 2048 * t.val + (8 * r.val + k.val / 128)
    omega
  have h0 : ∀ k j, w0 m hO c t (ix2 k j) = m ((c : Thread nD τ).loc main_arg3) (ix4 (0 : Fin 2) (teF m hO (tl t)) k j) :=
    fun k j => (pay1_apply _ k j).trans (iblk1 m hO c t 0 0 k j)
  have h1 : ∀ k j, w1 m hO c t (ix2 k j) = m ((c : Thread nD τ).loc main_arg4) (ix4 (0 : Fin 2) (teF m hO (tl t)) k j) :=
    fun k j => (pay2_apply _ k j).trans (iblk2 m hO c t 0 0 k j)
  have h2 : ∀ j k, w2 m hO c t (ix2 j k) = m ((c : Thread nD τ).loc main_arg5) (ix4 (0 : Fin 2) (teF m hO (tl t)) j k) :=
    fun j k => (pay3_apply _ j k).trans (iblk3 m hO c t 0 0 j k)
  refine Finset.sum_congr rfl fun j _ => ?_
  rw [hx, h2]
  refine congrArg (· * _) ?_
  exact congr (congr (congrArg (gated _) (funext fun k => funext fun j => h0 k j)) (funext fun k => funext fun j => h1 k j)) rfl

/-- What tile `t` leaves at an index of its block is the reference's array where the block places that index. -/
theorem placed (hO : Ok m) (hR : InRange m) (c : Dev nD) (t : Fin (cfgM m hO).N) (y : S2048x128.Idx) (j : S286720x128.Idx)
    (hj0 : (j 0).val = t.val * 2048 + (y 0).val) (hj1 : (j 1).val = (y 1).val) : outsAt m hO c t y = goal m c j := by
  have hc0 : c = 0 := Subsingleton.elim _ _
  subst hc0
  have hy0 : (y 0).val < 2048 := (y 0).isLt
  have hy1 : (y 1).val < 128 := (y 1).isLt
  have hT : t.val < 140 := (tl t).isLt
  have hQ : (j 0).val < 286720 := (j 0).isLt
  have ej : j = ix2 (⟨(j 0).val, hQ⟩ : Fin 286720) (⟨(y 1).val, hy1⟩ : Fin 128) :=
    (eq_ix2 j).trans (congr (congrArg ix2 (Fin.ext rfl)) (Fin.ext hj1))
  have hd : 128 * ((y 0).val % 8) + (y 1).val < 1024 := by omega
  rw [ej]
  unfold goal
  refine Eq.trans ?_ (Cert.Reference3Ideal.Hand.out_at _ _ _ _ _ _ (tl t) (⟨(y 0).val / 8, by omega⟩ : Fin 256) (⟨(y 0).val % 8, by omega⟩ : Fin 8)
    (⟨(y 1).val, hy1⟩ : Fin 128) ⟨(j 0).val, hQ⟩ (by show (j 0).val = 2048 * t.val + 8 * ((y 0).val / 8) + (y 0).val % 8; omega)
    (⟨128 * ((y 0).val % 8) + (y 1).val, hd⟩ : Fin 1024) rfl).symm
  refine Eq.trans ?_ (Cert.Reference3Ideal.Hand.tile_at _ _ _ _ _ _ (tl t) _ _ (teF m hO (tl t)) rfl).symm
  unfold outsAt
  rw [outVal_apply]
  have hc : (grid0.coords t 0).val = t.val := coord t
  have hu : Used (F := Ideal) (0 : Dev nD) (grid0.coords t) (tbl m 1) ↔ (BitVec.ofNat 32 t.val).toInt < (na m).toInt := by
    unfold Used
    rw [naAt_eq, cond2_iff, hc]
  by_cases h : (BitVec.ofNat 32 t.val).toInt < (na m).toInt
  · rw [if_pos (hu.2 h)]
    refine Eq.trans ?_ (if_pos h).symm
    exact acc_value m hO hR 0 t (nat_of_used _ hT _ hR.2.2 h) _ _
  · rw [if_neg (fun h' => h (hu.1 h'))]
    exact (if_neg h).symm

theorem index4 (hO : Ok m) (t : Fin (cfgM m hO).N) : @Eq (Fin 2 → ℕ) (((cfgM m hO).win 4).index t) ![t.val, 0] := by
  have ht : t.val < 140 := (tl t).isLt
  have hc : (grid0.coords t 0).val = t.val := coord t
  show cc0_transform_4 (grid0.coords t) = _
  have e : (BitVec.ofNat 32 (grid0.coords t 0).val).toNat = t.val := by rw [hc]; simp; omega
  exact congrArg (fun n : ℕ => (![n, 0] : Fin 2 → ℕ)) e

theorem final (hO : Ok m) (hR : InRange m) (c : Dev nD) : (dats m hO 0 c).arrAt 4 (cfgM m hO).N = goal m c := by
  refine (dats m hO 0 c).arrAt_eq_of_covers 4 _ ?_ fun t hf y => ?_
  · refine Window.covers_of_index_surj _ rfl (fun a => ?_) fun β => ?_
    · exact (by decide : ∀ a : Fin 2, 0 < S2048x128.size a) a
    · have n0 : ((cfgM m hO).win 4).nblk (0 : Fin 2) = 140 := by
        show (286720 + 2048 - 1) / 2048 = 140
        norm_num
      have n1 : ((cfgM m hO).win 4).nblk (1 : Fin 2) = 1 := by
        show (128 + 128 - 1) / 128 = 1
        norm_num
      have h0 : (β (0 : Fin 2)).val < 140 := lt_of_lt_of_eq (β (0 : Fin 2)).isLt n0
      have h1 : (β (1 : Fin 2)).val < 1 := lt_of_lt_of_eq (β (1 : Fin 2)).isLt n1
      have hN : (β (0 : Fin 2)).val < (cfgM m hO).N := lt_of_lt_of_eq h0 N_eq.symm
      refine ⟨⟨(β (0 : Fin 2)).val, hN⟩, fun a => ?_⟩
      match a with
      | ⟨0, _⟩ => exact at2 _ _ (index4 m hO ⟨(β (0 : Fin 2)).val, hN⟩) 0
      | ⟨1, _⟩ => exact (at2 _ _ (index4 m hO ⟨(β (0 : Fin 2)).val, hN⟩) 1).trans (show 0 = (β (1 : Fin 2)).val by omega)
  · blk_simp
    rw [after0_4]
    refine placed m hO hR c t _ _ ?_ ?_
    · blk_simp [index4]; exact scale_add _ _ _ _ _ (at2 _ _ (index4 m hO t) 0) rfl
    · blk_simp [index4]; exact fin0 _ _ _ (at2 _ _ (index4 m hO t) 1)

end Cert.Kernel3Ideal.Hand
end
-- ==== Proof.MoeValue.lean ====
/- The experts' value claim. -/
module

public import proofs.«01_k».proof.Defs
public import proofs.«01_k».proof.Proof.MoeFinal

@[expose] public section
noncomputable section
namespace Cert.MoeValue
open Idealize.ShloMosaic Idealize.ShloMosaic.TcCoe Idealize.SL.Sem Cert.Kernel3Ideal Cert.Kernel3Ideal.Gen Cert.Kernel3Ideal.Hand Cert.MoeClaim

theorem frame_reference_pre : Cert.quiescent_Reference3Ideal_pre_in_range := fun m g _ => frame_reference m g trivial

/-- The kernel's run: the result array the reference's, the argument arrays unchanged. -/
theorem run_value (m : (ℓ : Loc nD τ sig) → Buf (Elt Ideal) ℓ) (ρ : Dev nD → PrngReg) (hR : InRange m) :
    θ_run defs (onTc (τ := τ) (main (F := Ideal))) ⟨m, fun _ => 0, ρ⟩ (fun r => ∀ c : Dev nD,
      r.2.mem ((c.tc : Thread nD τ).loc main_v0) = goal m c
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))) :=
  have hO := ok_of m hR
  have h1 : θ_run defs (onTc (τ := τ) (main (F := Ideal))) ⟨m, fun _ => 0, ρ⟩ (fun r => ∀ c : Dev nD,
      r.2.mem ((c.tc : Thread nD τ).loc main_v0) = goal m c) :=
    (θ_run defs _ _).mono (fun _ h c => ((h c).1 4).trans (final m hO hR c)) (run_main m ρ hO)
  (θ_run defs _ _).mono (fun _ h c => ⟨h.1 c, h.2 c⟩)
    (θ_run_and h1 (frame_of m ρ hO (dats m hO) (A_eq m hO) (run_main m ρ hO)))

theorem algebraic : Cert.algebraic_Kernel3Ideal_Reference3Ideal := by
  intro m g m' g' hpre hargs
  refine ⟨fun c => goal m c, (θ_run Cert.Kernel3Ideal.defs _ _).mono (fun r h c => h c) (run_value m g (inRange_of m hpre)),
    (θ_run Cert.Reference3Ideal.defs _ _).mono (fun r h c => ⟨(h c).1.trans ?_, (h c).2⟩) (Cert.Reference3Ideal.Value.run m' g')⟩
  obtain ⟨e0, e1, e2, e3, e4, e5⟩ := hargs c
  rw [Cert.Reference3Ideal.Read.val_main_v27_eq, e0, e1, e2, e3, e4, e5]
  rfl

end Cert.MoeValue
end
-- ==== Proof.lean ====
module

public import proofs.«01_k».proof.Defs
public import proofs.«01_k».proof.Proof.AttnClaim
public import proofs.«01_k».proof.Proof.FfnClaim
public import proofs.«01_k».proof.Proof.MoeClaim
public import proofs.«01_k».proof.Proof.MoeValue
public import proofs.«01_k».proof.Proof.Gen.Kernel3
public import proofs.«01_k».proof.Proof.Gen.Kernel3Ideal.Launch
public import proofs.«01_k».proof.Proof.Gen.Kernel3Ideal.Skeleton
public import proofs.«01_k».proof.Proof.Gen.Reference3Ideal.Run
public import proofs.«01_k».proof.Proof.Gen.Reference3Ideal.Read
public import proofs.«01_k».proof.Proof.Gen.Pre_in_range

@[expose] public section

noncomputable section

namespace Cert.Proof

open Idealize.ShloMosaic Idealize.SL.Sem

/-- Everything the statement claims. -/
theorem claim : Cert.Claim :=
  haveI := Cert.AttnClaim.preFacts
  haveI := Cert.MoeClaim.preFacts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.AttnClaim.preFacts, Cert.MoeClaim.preFacts,
    Cert.AttnClaim.frame_kernel, Cert.AttnClaim.frame_ideal, Cert.AttnClaim.frame_ideal_pre,
    Cert.AttnClaim.frame_reference, Cert.AttnClaim.frame_reference_pre,
    Cert.FfnClaim.frame_kernel, Cert.FfnClaim.frame_ideal, Cert.FfnClaim.frame_reference,
    Cert.MoeClaim.frame_kernel, Cert.MoeClaim.frame_ideal, Cert.MoeClaim.frame_reference, Cert.MoeValue.frame_reference_pre,
    trivial, Cert.AttnClaim.algebraic, trivial, Cert.FfnClaim.algebraic, trivial, Cert.MoeValue.algebraic⟩

end Cert.Proof

end
